-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ring_graph [hPre_ring_graph : Cert.Pre_ring_graph.Facts] (m : (ℓ : Loc Cert.KernelIdeal.nD Cert.KernelIdeal.τ Cert.KernelIdeal.sig) → Buf (Elt Ideal) ℓ) : Prop :=
  ∀ c : Dev Cert.KernelIdeal.nD,
    (Cert.Pre_ring_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_ring_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ring_graph [hPre_ring_graph : Cert.Pre_ring_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ring_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_ring_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_ring_graph [hKernelIdeal : Cert.KernelIdeal.Facts] [hPre_ring_graph : Cert.Pre_ring_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ring_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ring_graph [hReferenceIdeal : Cert.ReferenceIdeal.Facts] [hPre_ring_graph : Cert.Pre_ring_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ring_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "step" .f32 0x3E7AC688#32 ((12 / 49 : ℝ) : EReal)
  ∧ IdealRules.named_const.Statement Cert.KernelIdeal.κ "coeff" .f32 0xC105638E#32 ((-2401 / 288 : ℝ) : EReal)

def algebraic_KernelIdeal_ReferenceIdeal_pre_ring_graph [hKernelIdeal : Cert.KernelIdeal.Facts] [hReferenceIdeal : Cert.ReferenceIdeal.Facts] [hPre_ring_graph : Cert.Pre_ring_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ring_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v31)) (v4 : (c : Dev Cert.KernelIdeal.nD) → Buf (Elt Ideal) ((c.tc : Thread Cert.KernelIdeal.nD Cert.KernelIdeal.τ).loc Cert.KernelIdeal.main_v20)) (v5 : (c : Dev Cert.KernelIdeal.nD) → Buf (Elt Ideal) ((c.tc : Thread Cert.KernelIdeal.nD Cert.KernelIdeal.τ).loc Cert.KernelIdeal.main_v28)) (v6 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_v28) = v5 c
          ∧ r.2.mem ((c.tc : Thread Cert.KernelIdeal.nD Cert.KernelIdeal.τ).loc Cert.KernelIdeal.main_v25) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_v232) = v5 c
          ∧ r.2.mem ((c.tc : Thread Cert.ReferenceIdeal.nD Cert.ReferenceIdeal.τ).loc Cert.ReferenceIdeal.main_v256) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ring_graph : Cert.Pre_ring_graph.Facts),
    quiescent_Kernel (hKernel := hKernel)
    ∧ quiescent_KernelIdeal (hKernelIdeal := hKernelIdeal)
    ∧ quiescent_KernelIdeal_pre_ring_graph (hKernelIdeal := hKernelIdeal) (hPre_ring_graph := hPre_ring_graph)
    ∧ quiescent_ReferenceIdeal (hReferenceIdeal := hReferenceIdeal)
    ∧ quiescent_ReferenceIdeal_pre_ring_graph (hReferenceIdeal := hReferenceIdeal) (hPre_ring_graph := hPre_ring_graph)
    ∧ preserves_Kernel_KernelIdeal
    ∧ algebraic_KernelIdeal_ReferenceIdeal_pre_ring_graph (hKernelIdeal := hKernelIdeal) (hReferenceIdeal := hReferenceIdeal) (hPre_ring_graph := hPre_ring_graph)
-- ==== Pre_ring_graph.lean ====
abbrev S3840x3 : Shape := ⟨2, ![3840, 3]⟩
abbrev S128 : Shape := ⟨1, ![128]⟩
abbrev S3840 : Shape := ⟨1, ![3840]⟩
abbrev S2x30720 : Shape := ⟨2, ![2, 30720]⟩
abbrev S100x512 : Shape := ⟨2, ![100, 512]⟩
abbrev S2x1x512 : Shape := ⟨3, ![2, 1, 512]⟩
abbrev S50x1024 : Shape := ⟨2, ![50, 1024]⟩
abbrev S1024 : Shape := ⟨1, ![1024]⟩
abbrev S1024x512 : Shape := ⟨2, ![1024, 512]⟩
abbrev S512 : Shape := ⟨1, ![512]⟩
abbrev S50x512 : Shape := ⟨2, ![50, 512]⟩
abbrev S30720 : Shape := ⟨1, ![30720]⟩
abbrev S_ : Shape := ⟨0, ![]⟩
abbrev S1x30720 : Shape := ⟨2, ![1, 30720]⟩

class Facts : Prop where
  bcast_S_S30720 : S_.BroadcastsInDim S30720 (![] : Fin 0 → Fin S30720.rank)
  bcast_S_S3840 : S_.BroadcastsInDim S3840 (![] : Fin 0 → Fin S3840.rank)
  slices_S2x30720_S1x30720_0_0 : S2x30720.Slices ![0, 0] S1x30720
  shapeCasts_S1x30720_S30720 : S1x30720.ShapeCasts S30720
  slices_S2x30720_S1x30720_1_0 : S2x30720.Slices ![1, 0] S1x30720

variable [Facts]

def fn_part1 {F : FTy → Type} [FloatOps F] (main_arg2 : IVec S3840 32) (main_arg3 : IVec S2x30720 32) (main_v4 : IVec S30720 32) (main_v13 : IVec S30720 32) (main_v16 : IVec S30720 32) : IVec S3840 1 × IVec S30720 1 :=
  let main_v17 : IVec S30720 32 := addi main_v4 main_v16
  let main_c_6 : IVec S_ 32 := constantI S_ 32 0#32
  let main_v18 : IVec S3840 32 := broadcastInDim S3840 ![] bcast_S_S3840 main_c_6
  let main_v19 : IVec S3840 1 := cmpi .sge main_arg2 main_v18
  let main_c_7 : IVec S_ 32 := constantI S_ 32 100#32
  let main_v20 : IVec S3840 32 := broadcastInDim S3840 ![] bcast_S_S3840 main_c_7
  let main_v21 : IVec S3840 1 := cmpi .slt main_arg2 main_v20
  let main_v22 : IVec S3840 1 := andi main_v19 main_v21
  let main_v23 : IVec S1x30720 32 := (extractStridedSlice S1x30720 ![0, 0] · slices_S2x30720_S1x30720_0_0) main_arg3
  let main_v24 : IVec S30720 32 := shapeCast S30720 main_v23 shapeCasts_S1x30720_S30720
  let main_v25 : IVec S30720 1 := cmpi .eq main_v24 main_v13
  let main_v26 : IVec S1x30720 32 := (extractStridedSlice S1x30720 ![1, 0] · slices_S2x30720_S1x30720_1_0) main_arg3
  let main_v27 : IVec S30720 32 := shapeCast S30720 main_v26 shapeCasts_S1x30720_S30720
  let main_v28 : IVec S30720 1 := cmpi .eq main_v27 main_v17
  let main_v29 : IVec S30720 1 := andi main_v25 main_v28
  (main_v22, main_v29)

def fn {F : FTy → Type} [FloatOps F] (main_arg0 : FVec F S3840x3 .f32) (main_arg1 : IVec S128 32) (main_arg2 : IVec S3840 32) (main_arg3 : IVec S2x30720 32) (main_arg4 : FVec F S100x512 .f32) (main_arg5 : FVec F S2x1x512 .f32) (main_arg6 : FVec F S50x1024 .f32) (main_arg7 : FVec F S1024 .f32) (main_arg8 : FVec F S1024x512 .f32) (main_arg9 : FVec F S512 .f32) (main_arg10 : FVec F S50x512 .f32) : IVec S3840 1 × IVec S30720 1 :=
  let main_v0 : IVec S30720 32 := iotaInDim S30720 32 0
  let main_c : IVec S_ 32 := constantI S_ 32 240#32
  let main_v1 : IVec S30720 32 := broadcastInDim S30720 ![] bcast_S_S30720 main_c
  let main_v2 : IVec S30720 32 := Host.divsi main_v0 main_v1
  let main_c_0 : IVec S_ 32 := constantI S_ 32 30#32
  let main_v3 : IVec S30720 32 := broadcastInDim S30720 ![] bcast_S_S30720 main_c_0
  let main_v4 : IVec S30720 32 := muli main_v2 main_v3
  let main_c_1 : IVec S_ 32 := constantI S_ 32 240#32
  let main_v5 : IVec S30720 32 := broadcastInDim S30720 ![] bcast_S_S30720 main_c_1
  let main_v6 : IVec S30720 32 := Host.remsi main_v0 main_v5
  let main_c_2 : IVec S_ 32 := constantI S_ 32 8#32
  let main_v7 : IVec S30720 32 := broadcastInDim S30720 ![] bcast_S_S30720 main_c_2
  let main_v8 : IVec S30720 32 := Host.divsi main_v6 main_v7
  let main_c_3 : IVec S_ 32 := constantI S_ 32 8#32
  let main_v9 : IVec S30720 32 := broadcastInDim S30720 ![] bcast_S_S30720 main_c_3
  let main_v10 : IVec S30720 32 := Host.remsi main_v6 main_v9
  let main_c_4 : IVec S_ 32 := constantI S_ 32 1#32
  let main_v11 : IVec S30720 32 := broadcastInDim S30720 ![] bcast_S_S30720 main_c_4
  let main_v12 : IVec S30720 32 := addi main_v10 main_v11
  let main_v13 : IVec S30720 32 := addi main_v4 main_v8
  let main_v14 : IVec S30720 32 := addi main_v8 main_v12
  let main_c_5 : IVec S_ 32 := constantI S_ 32 30#32
  let main_v15 : IVec S30720 32 := broadcastInDim S30720 ![] bcast_S_S30720 main_c_5
  let main_v16 : IVec S30720 32 := Host.remsi main_v14 main_v15
  fn_part1 (F := F) main_arg2 main_arg3 main_v4 main_v13 main_v16
-- ==== Kernel.lean ====
abbrev S3840x3 : Shape := ⟨2, ![3840, 3]⟩
abbrev S128 : Shape := ⟨1, ![128]⟩
abbrev S3840 : Shape := ⟨1, ![3840]⟩
abbrev S2x30720 : Shape := ⟨2, ![2, 30720]⟩
abbrev S100x512 : Shape := ⟨2, ![100, 512]⟩
abbrev S2x1x512 : Shape := ⟨3, ![2, 1, 512]⟩
abbrev S50x1024 : Shape := ⟨2, ![50, 1024]⟩
abbrev S1024 : Shape := ⟨1, ![1024]⟩
abbrev S1024x512 : Shape := ⟨2, ![1024, 512]⟩
abbrev S512 : Shape := ⟨1, ![512]⟩
abbrev S50x512 : Shape := ⟨2, ![50, 512]⟩
abbrev S3840x1 : Shape := ⟨2, ![3840, 1]⟩
abbrev S128x30 : Shape := ⟨2, ![128, 30]⟩
abbrev S30x128 : Shape := ⟨2, ![30, 128]⟩
abbrev S30x1x128 : Shape := ⟨3, ![30, 1, 128]⟩
abbrev S1x30x128 : Shape := ⟨3, ![1, 30, 128]⟩
abbrev S8x30x128 : Shape := ⟨3, ![8, 30, 128]⟩
abbrev S3x8x30x128 : Shape := ⟨4, ![3, 8, 30, 128]⟩
abbrev S8x8x30x128 : Shape := ⟨4, ![8, 8, 30, 128]⟩
abbrev S30x30x128 : Shape := ⟨3, ![30, 30, 128]⟩
abbrev S128x30x30 : Shape := ⟨3, ![128, 30, 30]⟩
abbrev S128x240 : Shape := ⟨2, ![128, 240]⟩
abbrev S128x30x64 : Shape := ⟨3, ![128, 30, 64]⟩
abbrev S2x128x30x64 : Shape := ⟨4, ![2, 128, 30, 64]⟩
abbrev S29x128 : Shape := ⟨2, ![29, 128]⟩
abbrev S1x128 : Shape := ⟨2, ![1, 128]⟩
abbrev S1x1x30x128 : Shape := ⟨4, ![1, 1, 30, 128]⟩
abbrev S28x128 : Shape := ⟨2, ![28, 128]⟩
abbrev S2x128 : Shape := ⟨2, ![2, 128]⟩
abbrev S27x128 : Shape := ⟨2, ![27, 128]⟩
abbrev S3x128 : Shape := ⟨2, ![3, 128]⟩
abbrev S26x128 : Shape := ⟨2, ![26, 128]⟩
abbrev S4x128 : Shape := ⟨2, ![4, 128]⟩
abbrev S25x128 : Shape := ⟨2, ![25, 128]⟩
abbrev S5x128 : Shape := ⟨2, ![5, 128]⟩
abbrev S24x128 : Shape := ⟨2, ![24, 128]⟩
abbrev S6x128 : Shape := ⟨2, ![6, 128]⟩
abbrev S23x128 : Shape := ⟨2, ![23, 128]⟩
abbrev S7x128 : Shape := ⟨2, ![7, 128]⟩
abbrev S22x128 : Shape := ⟨2, ![22, 128]⟩
abbrev S8x128 : Shape := ⟨2, ![8, 128]⟩
abbrev S30x1 : Shape := ⟨2, ![30, 1]⟩
abbrev S1x128x30x64 : Shape := ⟨4, ![1, 128, 30, 64]⟩
abbrev S128x30x8 : Shape := ⟨3, ![128, 30, 8]⟩
abbrev S30720 : Shape := ⟨1, ![30720]⟩
abbrev S128x30x8x3 : Shape := ⟨4, ![128, 30, 8, 3]⟩
abbrev S30720x3 : Shape := ⟨2, ![30720, 3]⟩
abbrev S128x30x8x8 : Shape := ⟨4, ![128, 30, 8, 8]⟩
abbrev S3840x64 : Shape := ⟨2, ![3840, 64]⟩
abbrev S245760 : Shape := ⟨1, ![245760]⟩
abbrev S3840x30 : Shape := ⟨2, ![3840, 30]⟩
abbrev S115200 : Shape := ⟨1, ![115200]⟩
abbrev S1x115200 : Shape := ⟨2, ![1, 115200]⟩
abbrev S2x115200 : Shape := ⟨2, ![2, 115200]⟩
abbrev S1x30720 : Shape := ⟨2, ![1, 30720]⟩
abbrev S30720x8 : Shape := ⟨2, ![30720, 8]⟩
abbrev S1x245760 : Shape := ⟨2, ![1, 245760]⟩
abbrev S2x245760 : Shape := ⟨2, ![2, 245760]⟩
abbrev S2x668160 : Shape := ⟨2, ![2, 668160]⟩
abbrev S_ : Shape := ⟨0, ![]⟩
abbrev S128x512 : Shape := ⟨2, ![128, 512]⟩
abbrev S1 : Shape := ⟨1, ![1]⟩
abbrev S2x512 : Shape := ⟨2, ![2, 512]⟩
abbrev S30720x1 : Shape := ⟨2, ![30720, 1]⟩
abbrev S1x1024 : Shape := ⟨2, ![1, 1024]⟩
abbrev S1x512 : Shape := ⟨2, ![1, 512]⟩
abbrev S34560x512 : Shape := ⟨2, ![34560, 512]⟩
abbrev S3840x512 : Shape := ⟨2, ![3840, 512]⟩
abbrev S3840x128 : Shape := ⟨2, ![3840, 128]⟩
abbrev S1x50 : Shape := ⟨2, ![1, 50]⟩
abbrev S3840x50 : Shape := ⟨2, ![3840, 50]⟩
abbrev S3840x1024 : Shape := ⟨2, ![3840, 1024]⟩

abbrev nBuf : Space → Nat
  | .hbm => 89
  | .vmem => 33
  | .smem => 0
  | _ => 0

abbrev bufTy : (tb : Table) → Fin (tcTables nBuf tb) → BufTy
  | .hbm, ⟨0, _⟩ => ⟨S3840x3, .f32⟩
  | .hbm, ⟨1, _⟩ => ⟨S128, .i32⟩
  | .hbm, ⟨2, _⟩ => ⟨S3840, .i32⟩
  | .hbm, ⟨3, _⟩ => ⟨S2x30720, .i32⟩
  | .hbm, ⟨4, _⟩ => ⟨S100x512, .f32⟩
  | .hbm, ⟨5, _⟩ => ⟨S2x1x512, .f32⟩
  | .hbm, ⟨6, _⟩ => ⟨S50x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S50x512, .f32⟩
  | .hbm, ⟨11, _⟩ => ⟨S3840x1, .f32⟩
  | .hbm, ⟨12, _⟩ => ⟨S3840, .f32⟩
  | .hbm, ⟨13, _⟩ => ⟨S128x30, .f32⟩
  | .hbm, ⟨14, _⟩ => ⟨S3840x1, .f32⟩
  | .hbm, ⟨15, _⟩ => ⟨S3840, .f32⟩
  | .hbm, ⟨16, _⟩ => ⟨S128x30, .f32⟩
  | .hbm, ⟨17, _⟩ => ⟨S3840x1, .f32⟩
  | .hbm, ⟨18, _⟩ => ⟨S3840, .f32⟩
  | .hbm, ⟨19, _⟩ => ⟨S128x30, .f32⟩
  | .hbm, ⟨20, _⟩ => ⟨S30x128, .f32⟩
  | .hbm, ⟨21, _⟩ => ⟨S30x128, .f32⟩
  | .hbm, ⟨22, _⟩ => ⟨S30x128, .f32⟩
  | .hbm, ⟨23, _⟩ => ⟨S30x1x128, .f32⟩
  | .hbm, ⟨24, _⟩ => ⟨S30x1x128, .f32⟩
  | .hbm, ⟨25, _⟩ => ⟨S30x1x128, .f32⟩
  | .hbm, ⟨26, _⟩ => ⟨S1x30x128, .f32⟩
  | .hbm, ⟨27, _⟩ => ⟨S1x30x128, .f32⟩
  | .hbm, ⟨28, _⟩ => ⟨S1x30x128, .f32⟩
  | .hbm, ⟨29, _⟩ => ⟨S8x30x128, .f32⟩
  | .hbm, ⟨30, _⟩ => ⟨S3x8x30x128, .f32⟩
  | .hbm, ⟨31, _⟩ => ⟨S8x8x30x128, .f32⟩
  | .hbm, ⟨32, _⟩ => ⟨S8x8x30x128, .f32⟩
  | .hbm, ⟨33, _⟩ => ⟨S30x30x128, .f32⟩
  | .hbm, ⟨34, _⟩ => ⟨S128x30x30, .i32⟩
  | .hbm, ⟨35, _⟩ => ⟨S128x30x30, .i32⟩
  | .hbm, ⟨36, _⟩ => ⟨S128x240, .i32⟩
  | .hbm, ⟨37, _⟩ => ⟨S128x240, .i32⟩
  | .hbm, ⟨38, _⟩ => ⟨S128x240, .i32⟩
  | .hbm, ⟨39, _⟩ => ⟨S128x30x64, .i32⟩
  | .hbm, ⟨40, _⟩ => ⟨S2x128x30x64, .i32⟩
  | .hbm, ⟨41, _⟩ => ⟨S128x30x8, .f32⟩
  | .hbm, ⟨42, _⟩ => ⟨S30720, .f32⟩
  | .hbm, ⟨43, _⟩ => ⟨S128x30x8x3, .f32⟩
  | .hbm, ⟨44, _⟩ => ⟨S30720x3, .f32⟩
  | .hbm, ⟨45, _⟩ => ⟨S128x30x8x8, .f32⟩
  | .hbm, ⟨46, _⟩ => ⟨S3840x64, .f32⟩
  | .hbm, ⟨47, _⟩ => ⟨S245760, .f32⟩
  | .hbm, ⟨48, _⟩ => ⟨S128x30x8x8, .f32⟩
  | .hbm, ⟨49, _⟩ => ⟨S3840x64, .f32⟩
  | .hbm, ⟨50, _⟩ => ⟨S245760, .f32⟩
  | .hbm, ⟨51, _⟩ => ⟨S128x30x30, .f32⟩
  | .hbm, ⟨52, _⟩ => ⟨S3840x30, .f32⟩
  | .hbm, ⟨53, _⟩ => ⟨S115200, .f32⟩
  | .hbm, ⟨54, _⟩ => ⟨S115200, .i32⟩
  | .hbm, ⟨55, _⟩ => ⟨S115200, .i32⟩
  | .hbm, ⟨56, _⟩ => ⟨S1x115200, .i32⟩
  | .hbm, ⟨57, _⟩ => ⟨S1x115200, .i32⟩
  | .hbm, ⟨58, _⟩ => ⟨S2x115200, .i32⟩
  | .hbm, ⟨59, _⟩ => ⟨S30720, .i32⟩
  | .hbm, ⟨60, _⟩ => ⟨S30720, .i32⟩
  | .hbm, ⟨61, _⟩ => ⟨S1x30720, .i32⟩
  | .hbm, ⟨62, _⟩ => ⟨S1x30720, .i32⟩
  | .hbm, ⟨63, _⟩ => ⟨S2x30720, .i32⟩
  | .hbm, ⟨64, _⟩ => ⟨S30720, .i32⟩
  | .hbm, ⟨65, _⟩ => ⟨S30720, .i32⟩
  | .hbm, ⟨66, _⟩ => ⟨S1x30720, .i32⟩
  | .hbm, ⟨67, _⟩ => ⟨S1x30720, .i32⟩
  | .hbm, ⟨68, _⟩ => ⟨S2x30720, .i32⟩
  | .hbm, ⟨69, _⟩ => ⟨S30720, .i32⟩
  | .hbm, ⟨70, _⟩ => ⟨S30720x8, .i32⟩
  | .hbm, ⟨71, _⟩ => ⟨S245760, .i32⟩
  | .hbm, ⟨72, _⟩ => ⟨S245760, .i32⟩
  | .hbm, ⟨73, _⟩ => ⟨S1x245760, .i32⟩
  | .hbm, ⟨74, _⟩ => ⟨S1x245760, .i32⟩
  | .hbm, ⟨75, _⟩ => ⟨S2x245760, .i32⟩
  | .hbm, ⟨76, _⟩ => ⟨S2x245760, .i32⟩
  | .hbm, ⟨77, _⟩ => ⟨S2x668160, .i32⟩
  | .hbm, ⟨78, _⟩ => ⟨S_, .f32⟩
  | .hbm, ⟨79, _⟩ => ⟨S128x512, .f32⟩
  | .hbm, ⟨80, _⟩ => ⟨S_, .i32⟩
  | .hbm, ⟨81, _⟩ => ⟨S1, .i32⟩
  | .hbm, ⟨82, _⟩ => ⟨S128x512, .f32⟩
  | .hbm, ⟨83, _⟩ => ⟨S2x512, .f32⟩
  | .hbm, ⟨84, _⟩ => ⟨S3840x1, .i32⟩
  | .hbm, ⟨85, _⟩ => ⟨S30720x1, .f32⟩
  | .hbm, ⟨86, _⟩ => ⟨S1x1024, .f32⟩
  | .hbm, ⟨87, _⟩ => ⟨S1x512, .f32⟩
  | .hbm, ⟨88, _⟩ => ⟨S34560x512, .f32⟩
  | .local _ .vmem, ⟨0, _⟩ => ⟨S30x128, .f32⟩
  | .local _ .vmem, ⟨1, _⟩ => ⟨S30x128, .f32⟩
  | .local _ .vmem, ⟨2, _⟩ => ⟨S30x128, .f32⟩
  | .local _ .vmem, ⟨3, _⟩ => ⟨S30x1x128, .f32⟩
  | .local _ .vmem, ⟨4, _⟩ => ⟨S30x1x128, .f32⟩
  | .local _ .vmem, ⟨5, _⟩ => ⟨S30x1x128, .f32⟩
  | .local _ .vmem, ⟨6, _⟩ => ⟨S1x30x128, .f32⟩
  | .local _ .vmem, ⟨7, _⟩ => ⟨S1x30x128, .f32⟩
  | .local _ .vmem, ⟨8, _⟩ => ⟨S1x30x128, .f32⟩
  | .local _ .vmem, ⟨9, _⟩ => ⟨S8x30x128, .f32⟩
  | .local _ .vmem, ⟨10, _⟩ => ⟨S3x8x30x128, .f32⟩
  | .local _ .vmem, ⟨11, _⟩ => ⟨S8x8x30x128, .f32⟩
  | .local _ .vmem, ⟨12, _⟩ => ⟨S8x8x30x128, .f32⟩
  | .local _ .vmem, ⟨13, _⟩ => ⟨S30x30x128, .f32⟩
  | .local _ .vmem, ⟨14, _⟩ => ⟨S128x30x30, .i32⟩
  | .local _ .vmem, ⟨15, _⟩ => ⟨S128x30x30, .i32⟩
  | .local _ .vmem, ⟨16, _⟩ => ⟨S128x240, .i32⟩
  | .local _ .vmem, ⟨17, _⟩ => ⟨S128x240, .i32⟩
  | .local _ .vmem, ⟨18, _⟩ => ⟨S128x240, .i32⟩
  | .local _ .vmem, ⟨19, _⟩ => ⟨S128x30x64, .i32⟩
  | .local _ .vmem, ⟨20, _⟩ => ⟨S2x128x30x64, .i32⟩
  | .local _ .vmem, ⟨21, _⟩ => ⟨S3840x1, .f32⟩
  | .local _ .vmem, ⟨22, _⟩ => ⟨S3840x1, .f32⟩
  | .local _ .vmem, ⟨23, _⟩ => ⟨S3840x1, .i32⟩
  | .local _ .vmem, ⟨24, _⟩ => ⟨S128x512, .f32⟩
  | .local _ .vmem, ⟨25, _⟩ => ⟨S2x512, .f32⟩
  | .local _ .vmem, ⟨26, _⟩ => ⟨S50x1024, .f32⟩
  | .local _ .vmem, ⟨27, _⟩ => ⟨S1x1024, .f32⟩
  | .local _ .vmem, ⟨28, _⟩ => ⟨S1024x512, .f32⟩
  | .local _ .vmem, ⟨29, _⟩ => ⟨S1x512, .f32⟩
  | .local _ .vmem, ⟨30, _⟩ => ⟨S50x512, .f32⟩
  | .local _ .vmem, ⟨31, _⟩ => ⟨S3840x512, .f32⟩
  | .local _ .vmem, ⟨32, _⟩ => ⟨S3840x512, .f32⟩
  | _, _ => ⟨S3840x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev main_v18_8 : Ref sig .tc := ⟨.hbm, 37, rfl⟩
abbrev main_v18_9 : Ref sig .tc := ⟨.hbm, 38, rfl⟩
abbrev main_v18_10 : Ref sig .tc := ⟨.hbm, 39, rfl⟩
abbrev main_v18_11 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst : Ref sig .tc := ⟨.hbm, 78, rfl⟩
abbrev main_v56 : Ref sig .tc := ⟨.hbm, 79, rfl⟩
abbrev main_c : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32

abbrev nD : Nat := 1
abbrev τ : Topo := Topo.v7x

variable {F : FTy → Type} [FloatOps F]

abbrev grid0 : Pipeline.Grid := .none

abbrev stage0_0 : Fin 1 → Memref sig .tc .vmem S30x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S30x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S30x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x30x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x30x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x30x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x30x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x8x30x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x8x30x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x8x30x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S30x30x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x30x30 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x30x30 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x240 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x240 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x240 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x30x64 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x128x30x64 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev grid1 : Pipeline.Grid := ⟨1, ![9], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let v1 : BitVec 32 := Scalar.subi arg0 c1_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3840x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3840x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S50x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S50x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S3840x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelIdeal.lean ====
variable {F : FTy → Type} [FloatOps F] [Named F]
def κ : String → Option EReal := fun
  | "coeff" => some ((-2401 / 288 : ℝ) : EReal)
  | "step" => some ((12 / 49 : ℝ) : EReal)
  | _ => none
-- ==== ReferenceIdeal.lean ====
abbrev S3840x3 : Shape := ⟨2, ![3840, 3]⟩
abbrev S128 : Shape := ⟨1, ![128]⟩
abbrev S3840 : Shape := ⟨1, ![3840]⟩
abbrev S2x30720 : Shape := ⟨2, ![2, 30720]⟩
abbrev S100x512 : Shape := ⟨2, ![100, 512]⟩
abbrev S2x1x512 : Shape := ⟨3, ![2, 1, 512]⟩
abbrev S50x1024 : Shape := ⟨2, ![50, 1024]⟩
abbrev S1024 : Shape := ⟨1, ![1024]⟩
abbrev S1024x512 : Shape := ⟨2, ![1024, 512]⟩
abbrev S512 : Shape := ⟨1, ![512]⟩
abbrev S50x512 : Shape := ⟨2, ![50, 512]⟩
abbrev S_ : Shape := ⟨0, ![]⟩
abbrev S3840x1 : Shape := ⟨2, ![3840, 1]⟩
abbrev S3840x512 : Shape := ⟨2, ![3840, 512]⟩
abbrev S1x1x512 : Shape := ⟨3, ![1, 1, 512]⟩
abbrev S1x512 : Shape := ⟨2, ![1, 512]⟩
abbrev S1x30720 : Shape := ⟨2, ![1, 30720]⟩
abbrev S30720 : Shape := ⟨1, ![30720]⟩
abbrev S30720x1 : Shape := ⟨2, ![30720, 1]⟩
abbrev S30720x3 : Shape := ⟨2, ![30720, 3]⟩
abbrev S49 : Shape := ⟨1, ![49]⟩
abbrev S1 : Shape := ⟨1, ![1]⟩
abbrev S50 : Shape := ⟨1, ![50]⟩
abbrev S1x50 : Shape := ⟨2, ![1, 50]⟩
abbrev S30720x50 : Shape := ⟨2, ![30720, 50]⟩
abbrev S30720x1024 : Shape := ⟨2, ![30720, 1024]⟩
abbrev S1x1024 : Shape := ⟨2, ![1, 1024]⟩
abbrev S30720x512 : Shape := ⟨2, ![30720, 512]⟩
abbrev S34560x512 : Shape := ⟨2, ![34560, 512]⟩
abbrev S30 : Shape := ⟨1, ![30]⟩
abbrev S1x30 : Shape := ⟨2, ![1, 30]⟩
abbrev S30x30 : Shape := ⟨2, ![30, 30]⟩
abbrev S900 : Shape := ⟨1, ![900]⟩
abbrev S128x1 : Shape := ⟨2, ![128, 1]⟩
abbrev S1x900 : Shape := ⟨2, ![1, 900]⟩
abbrev S128x900 : Shape := ⟨2, ![128, 900]⟩
abbrev S115200 : Shape := ⟨1, ![115200]⟩
abbrev S1x115200 : Shape := ⟨2, ![1, 115200]⟩
abbrev S2x115200 : Shape := ⟨2, ![2, 115200]⟩
abbrev S115200x1 : Shape := ⟨2, ![115200, 1]⟩
abbrev S115200x3 : Shape := ⟨2, ![115200, 3]⟩
abbrev S3840x8 : Shape := ⟨2, ![3840, 8]⟩
abbrev S3840x8x1 : Shape := ⟨3, ![3840, 8, 1]⟩
abbrev S3840x8x8 : Shape := ⟨3, ![3840, 8, 8]⟩
abbrev S245760 : Shape := ⟨1, ![245760]⟩
abbrev S3840x1x8 : Shape := ⟨3, ![3840, 1, 8]⟩
abbrev S245760x1 : Shape := ⟨2, ![245760, 1]⟩
abbrev S1x245760 : Shape := ⟨2, ![1, 245760]⟩
abbrev S2x245760 : Shape := ⟨2, ![2, 245760]⟩
abbrev S2x668160 : Shape := ⟨2, ![2, 668160]⟩
abbrev S245760x3 : Shape := ⟨2, ![245760, 3]⟩

abbrev nBuf : Space → Nat
  | .hbm => 352
  | .vmem => 0
  | .smem => 0
  | _ => 0

abbrev hbmTy0_0 (i : Nat) : BufTy := match i % 128 with
  | 0 => ⟨S3840x3, .f32⟩
  | 1 => ⟨S128, .i32⟩
  | 2 => ⟨S3840, .i32⟩
  | 3 => ⟨S2x30720, .i32⟩
  | 4 => ⟨S100x512, .f32⟩
  | 5 => ⟨S2x1x512, .f32⟩
  | 6 => ⟨S50x1024, .f32⟩
  | 7 => ⟨S1024, .f32⟩
  | 8 => ⟨S1024x512, .f32⟩
  | 9 => ⟨S512, .f32⟩
  | 10 => ⟨S50x512, .f32⟩
  | 11 => ⟨S_, .i32⟩
  | 12 => ⟨S3840, .i32⟩
  | 13 => ⟨S3840, .i1⟩
  | 14 => ⟨S_, .i32⟩
  | 15 => ⟨S3840, .i32⟩
  | 16 => ⟨S3840, .i32⟩
  | 17 => ⟨S3840, .i32⟩
  | 18 => ⟨S3840x1, .i32⟩
  | 19 => ⟨S3840x512, .f32⟩
  | 20 => ⟨S1x1x512, .f32⟩
  | 21 => ⟨S1x512, .f32⟩
  | 22 => ⟨S3840x512, .f32⟩
  | 23 => ⟨S3840x512, .f32⟩
  | 24 => ⟨S_, .f32⟩
  | 25 => ⟨S3840x512, .f32⟩
  | 26 => ⟨S3840x512, .f32⟩
  | 27 => ⟨S1x30720, .i32⟩
  | 28 => ⟨S30720, .i32⟩
  | 29 => ⟨S_, .i32⟩
  | 30 => ⟨S30720, .i32⟩
  | 31 => ⟨S30720, .i1⟩
  | 32 => ⟨S_, .i32⟩
  | 33 => ⟨S30720, .i32⟩
  | 34 => ⟨S30720, .i32⟩
  | 35 => ⟨S30720, .i32⟩
  | 36 => ⟨S30720x1, .i32⟩
  | 37 => ⟨S30720x3, .f32⟩
  | 38 => ⟨S1x30720, .i32⟩
  | 39 => ⟨S30720, .i32⟩
  | 40 => ⟨S_, .i32⟩
  | 41 => ⟨S30720, .i32⟩
  | 42 => ⟨S30720, .i1⟩
  | 43 => ⟨S_, .i32⟩
  | 44 => ⟨S30720, .i32⟩
  | 45 => ⟨S30720, .i32⟩
  | 46 => ⟨S30720, .i32⟩
  | 47 => ⟨S30720x1, .i32⟩
  | 48 => ⟨S30720x3, .f32⟩
  | 49 => ⟨S30720x3, .f32⟩
  | 50 => ⟨S30720x3, .f32⟩
  | 51 => ⟨S_, .f32⟩
  | 52 => ⟨S30720, .f32⟩
  | 53 => ⟨S30720, .f32⟩
  | 54 => ⟨S_, .f32⟩
  | 55 => ⟨S30720, .f32⟩
  | 56 => ⟨S30720, .f32⟩
  | 57 => ⟨S30720x1, .f32⟩
  | 58 => ⟨S30720x3, .f32⟩
  | 59 => ⟨S30720x3, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S49, .f32⟩
  | 68 => ⟨S_, .f32⟩
  | 69 => ⟨S49, .f32⟩
  | 70 => ⟨S49, .f32⟩
  | 71 => ⟨S1, .f32⟩
  | 72 => ⟨S_, .f32⟩
  | 73 => ⟨S49, .f32⟩
  | 74 => ⟨S49, .f32⟩
  | 75 => ⟨S49, .f32⟩
  | 76 => ⟨S49, .f32⟩
  | 77 => ⟨S1, .f32⟩
  | 78 => ⟨S49, .f32⟩
  | 79 => ⟨S49, .f32⟩
  | 80 => ⟨S49, .f32⟩
  | 81 => ⟨S1, .f32⟩
  | 82 => ⟨S50, .f32⟩
  | 83 => ⟨S1, .f32⟩
  | 84 => ⟨S_, .f32⟩
  | 85 => ⟨S1, .f32⟩
  | 86 => ⟨S_, .f32⟩
  | 87 => ⟨S_, .f32⟩
  | 88 => ⟨S_, .f32⟩
  | 89 => ⟨S_, .f32⟩
  | 90 => ⟨S_, .f32⟩
  | 91 => ⟨S30720x1, .f32⟩
  | 92 => ⟨S1x50, .f32⟩
  | 93 => ⟨S30720x50, .f32⟩
  | 94 => ⟨S30720x50, .f32⟩
  | 95 => ⟨S30720x50, .f32⟩
  | 96 => ⟨S30720x50, .f32⟩
  | 97 => ⟨S30720x50, .f32⟩
  | 98 => ⟨S30720x50, .f32⟩
  | 99 => ⟨S30720x50, .f32⟩
  | 100 => ⟨S30720x1024, .f32⟩
  | 101 => ⟨S1x1024, .f32⟩
  | 102 => ⟨S30720x1024, .f32⟩
  | 103 => ⟨S30720x1024, .f32⟩
  | 104 => ⟨S30720x1024, .f32⟩
  | 105 => ⟨S30720x1024, .f32⟩
  | 106 => ⟨S_, .f32⟩
  | 107 => ⟨S30720x1024, .f32⟩
  | 108 => ⟨S30720x1024, .f32⟩
  | 109 => ⟨S30720x1024, .f32⟩
  | 110 => ⟨S_, .f32⟩
  | 111 => ⟨S30720x1024, .f32⟩
  | 112 => ⟨S30720x1024, .f32⟩
  | 113 => ⟨S30720x1024, .f32⟩
  | 114 => ⟨S_, .f32⟩
  | 115 => ⟨S30720x1024, .f32⟩
  | 116 => ⟨S30720x1024, .f32⟩
  | 117 => ⟨S_, .f32⟩
  | 118 => ⟨S30720x1024, .f32⟩
  | 119 => ⟨S30720x1024, .f32⟩
  | 120 => ⟨S30720x1024, .f32⟩
  | 121 => ⟨S30720x512, .f32⟩
  | 122 => ⟨S1x512, .f32⟩
  | 123 => ⟨S30720x512, .f32⟩
  | 124 => ⟨S30720x512, .f32⟩
  | 125 => ⟨S30720x512, .f32⟩
  | 126 => ⟨S30720x512, .f32⟩
  | 127 => ⟨S1x1x512, .f32⟩
  | _ => ⟨S3840x3, .f32⟩

abbrev hbmTy0_1 (i : Nat) : BufTy := match i % 128 with
  | 0 => ⟨S1x512, .f32⟩
  | 1 => ⟨S30720x512, .f32⟩
  | 2 => ⟨S30720x512, .f32⟩
  | 3 => ⟨S_, .f32⟩
  | 4 => ⟨S30720x512, .f32⟩
  | 5 => ⟨S30720x512, .f32⟩
  | 6 => ⟨S34560x512, .f32⟩
  | 7 => ⟨S30, .i32⟩
  | 8 => ⟨S1x30, .i32⟩
  | 9 => ⟨S30x30, .i32⟩
  | 10 => ⟨S900, .i32⟩
  | 11 => ⟨S30, .i32⟩
  | 12 => ⟨S30x30, .i32⟩
  | 13 => ⟨S900, .i32⟩
  | 14 => ⟨S128, .i32⟩
  | 15 => ⟨S_, .i32⟩
  | 16 => ⟨S128, .i32⟩
  | 17 => ⟨S128, .i32⟩
  | 18 => ⟨S128x1, .i32⟩
  | 19 => ⟨S1x900, .i32⟩
  | 20 => ⟨S128x900, .i32⟩
  | 21 => ⟨S128x900, .i32⟩
  | 22 => ⟨S128x900, .i32⟩
  | 23 => ⟨S115200, .i32⟩
  | 24 => ⟨S1x900, .i32⟩
  | 25 => ⟨S128x900, .i32⟩
  | 26 => ⟨S128x900, .i32⟩
  | 27 => ⟨S128x900, .i32⟩
  | 28 => ⟨S115200, .i32⟩
  | 29 => ⟨S1x115200, .i32⟩
  | 30 => ⟨S1x115200, .i32⟩
  | 31 => ⟨S2x115200, .i32⟩
  | 32 => ⟨S_, .i32⟩
  | 33 => ⟨S115200, .i32⟩
  | 34 => ⟨S115200, .i1⟩
  | 35 => ⟨S_, .i32⟩
  | 36 => ⟨S115200, .i32⟩
  | 37 => ⟨S115200, .i32⟩
  | 38 => ⟨S115200, .i32⟩
  | 39 => ⟨S115200x1, .i32⟩
  | 40 => ⟨S115200x3, .f32⟩
  | 41 => ⟨S_, .i32⟩
  | 42 => ⟨S115200, .i32⟩
  | 43 => ⟨S115200, .i1⟩
  | 44 => ⟨S_, .i32⟩
  | 45 => ⟨S115200, .i32⟩
  | 46 => ⟨S115200, .i32⟩
  | 47 => ⟨S115200, .i32⟩
  | 48 => ⟨S115200x1, .i32⟩
  | 49 => ⟨S115200x3, .f32⟩
  | 50 => ⟨S115200x3, .f32⟩
  | 51 => ⟨S115200x3, .f32⟩
  | 52 => ⟨S_, .f32⟩
  | 53 => ⟨S115200, .f32⟩
  | 54 => ⟨S115200, .f32⟩
  | 55 => ⟨S30720, .i32⟩
  | 56 => ⟨S_, .i32⟩
  | 57 => ⟨S30720, .i32⟩
  | 58 => ⟨S30720, .i32⟩
  | 59 => ⟨S1x30720, .i32⟩
  | 60 => ⟨S30720, .i32⟩
  | 61 => ⟨S1x30720, .i32⟩
  | 62 => ⟨S1x30720, .i32⟩
  | 63 => ⟨S2x30720, .i32⟩
  | 64 => ⟨S1x30720, .i32⟩
  | 65 => ⟨S30720, .i32⟩
  | 66 => ⟨S1x30720, .i32⟩
  | 67 => ⟨S1x30720, .i32⟩
  | 68 => ⟨S2x30720, .i32⟩
  | 69 => ⟨S1x30720, .i32⟩
  | 70 => ⟨S30720, .i32⟩
  | 71 => ⟨S30720, .i32⟩
  | 72 => ⟨S30720, .i32⟩
  | 73 => ⟨S30720, .i32⟩
  | 74 => ⟨S_, .i32⟩
  | 75 => ⟨S30720, .i32⟩
  | 76 => ⟨S30720, .i1⟩
  | 77 => ⟨S_, .i32⟩
  | 78 => ⟨S30720, .i32⟩
  | 79 => ⟨S30720, .i32⟩
  | 80 => ⟨S30720, .i32⟩
  | 81 => ⟨S30720x1, .i32⟩
  | 82 => ⟨S30720, .i32⟩
  | 83 => ⟨S3840x8, .i32⟩
  | 84 => ⟨S3840x8x1, .i32⟩
  | 85 => ⟨S3840x8x8, .i32⟩
  | 86 => ⟨S245760, .i32⟩
  | 87 => ⟨S3840x1x8, .i32⟩
  | 88 => ⟨S3840x8x8, .i32⟩
  | 89 => ⟨S245760, .i32⟩
  | 90 => ⟨S245760, .i32⟩
  | 91 => ⟨S245760, .i32⟩
  | 92 => ⟨S245760, .i32⟩
  | 93 => ⟨S245760, .i32⟩
  | 94 => ⟨S_, .i32⟩
  | 95 => ⟨S245760, .i32⟩
  | 96 => ⟨S245760, .i1⟩
  | 97 => ⟨S_, .i32⟩
  | 98 => ⟨S245760, .i32⟩
  | 99 => ⟨S245760, .i32⟩
  | 100 => ⟨S245760, .i32⟩
  | 101 => ⟨S245760x1, .i32⟩
  | 102 => ⟨S245760, .i32⟩
  | 103 => ⟨S_, .i32⟩
  | 104 => ⟨S245760, .i32⟩
  | 105 => ⟨S245760, .i1⟩
  | 106 => ⟨S_, .i32⟩
  | 107 => ⟨S245760, .i32⟩
  | 108 => ⟨S245760, .i32⟩
  | 109 => ⟨S245760, .i32⟩
  | 110 => ⟨S245760x1, .i32⟩
  | 111 => ⟨S245760, .i32⟩
  | 112 => ⟨S1x245760, .i32⟩
  | 113 => ⟨S1x245760, .i32⟩
  | 114 => ⟨S2x245760, .i32⟩
  | 115 => ⟨S1x30720, .i32⟩
  | 116 => ⟨S30720, .i32⟩
  | 117 => ⟨S30720, .i32⟩
  | 118 => ⟨S30720, .i32⟩
  | 119 => ⟨S30720, .i32⟩
  | 120 => ⟨S_, .i32⟩
  | 121 => ⟨S30720, .i32⟩
  | 122 => ⟨S30720, .i1⟩
  | 123 => ⟨S_, .i32⟩
  | 124 => ⟨S30720, .i32⟩
  | 125 => ⟨S30720, .i32⟩
  | 126 => ⟨S30720, .i32⟩
  | 127 => ⟨S30720x1, .i32⟩
  | _ => ⟨S3840x3, .f32⟩

abbrev hbmTy0_2 (i : Nat) : BufTy := match i % 128 with
  | 0 => ⟨S30720, .i32⟩
  | 1 => ⟨S3840x8, .i32⟩
  | 2 => ⟨S3840x8x1, .i32⟩
  | 3 => ⟨S3840x8x8, .i32⟩
  | 4 => ⟨S245760, .i32⟩
  | 5 => ⟨S3840x1x8, .i32⟩
  | 6 => ⟨S3840x8x8, .i32⟩
  | 7 => ⟨S245760, .i32⟩
  | 8 => ⟨S245760, .i32⟩
  | 9 => ⟨S245760, .i32⟩
  | 10 => ⟨S245760, .i32⟩
  | 11 => ⟨S245760, .i32⟩
  | 12 => ⟨S_, .i32⟩
  | 13 => ⟨S245760, .i32⟩
  | 14 => ⟨S245760, .i1⟩
  | 15 => ⟨S_, .i32⟩
  | 16 => ⟨S245760, .i32⟩
  | 17 => ⟨S245760, .i32⟩
  | 18 => ⟨S245760, .i32⟩
  | 19 => ⟨S245760x1, .i32⟩
  | 20 => ⟨S245760, .i32⟩
  | 21 => ⟨S_, .i32⟩
  | 22 => ⟨S245760, .i32⟩
  | 23 => ⟨S245760, .i1⟩
  | 24 => ⟨S_, .i32⟩
  | 25 => ⟨S245760, .i32⟩
  | 26 => ⟨S245760, .i32⟩
  | 27 => ⟨S245760, .i32⟩
  | 28 => ⟨S245760x1, .i32⟩
  | 29 => ⟨S245760, .i32⟩
  | 30 => ⟨S1x245760, .i32⟩
  | 31 => ⟨S1x245760, .i32⟩
  | 32 => ⟨S2x245760, .i32⟩
  | 33 => ⟨S2x668160, .i32⟩
  | 34 => ⟨S1x245760, .i32⟩
  | 35 => ⟨S245760, .i32⟩
  | 36 => ⟨S_, .i32⟩
  | 37 => ⟨S245760, .i32⟩
  | 38 => ⟨S245760, .i32⟩
  | 39 => ⟨S_, .i32⟩
  | 40 => ⟨S245760, .i32⟩
  | 41 => ⟨S245760, .i1⟩
  | 42 => ⟨S_, .i32⟩
  | 43 => ⟨S245760, .i32⟩
  | 44 => ⟨S245760, .i32⟩
  | 45 => ⟨S245760, .i32⟩
  | 46 => ⟨S245760x1, .i32⟩
  | 47 => ⟨S245760x3, .f32⟩
  | 48 => ⟨S1x245760, .i32⟩
  | 49 => ⟨S245760, .i32⟩
  | 50 => ⟨S_, .i32⟩
  | 51 => ⟨S245760, .i32⟩
  | 52 => ⟨S245760, .i32⟩
  | 53 => ⟨S_, .i32⟩
  | 54 => ⟨S245760, .i32⟩
  | 55 => ⟨S245760, .i1⟩
  | 56 => ⟨S_, .i32⟩
  | 57 => ⟨S245760, .i32⟩
  | 58 => ⟨S245760, .i32⟩
  | 59 => ⟨S245760, .i32⟩
  | 60 => ⟨S245760x1, .i32⟩
  | 61 => ⟨S245760x3, .f32⟩
  | 62 => ⟨S245760x3, .f32⟩
  | 63 => ⟨S_, .f32⟩
  | 64 => ⟨S245760, .f32⟩
  | 65 => ⟨S1x245760, .i32⟩
  | 66 => ⟨S245760, .i32⟩
  | 67 => ⟨S_, .i32⟩
  | 68 => ⟨S245760, .i32⟩
  | 69 => ⟨S245760, .i32⟩
  | 70 => ⟨S_, .i32⟩
  | 71 => ⟨S245760, .i32⟩
  | 72 => ⟨S245760, .i1⟩
  | 73 => ⟨S_, .i32⟩
  | 74 => ⟨S245760, .i32⟩
  | 75 => ⟨S245760, .i32⟩
  | 76 => ⟨S245760, .i32⟩
  | 77 => ⟨S245760x1, .i32⟩
  | 78 => ⟨S245760x3, .f32⟩
  | 79 => ⟨S1x245760, .i32⟩
  | 80 => ⟨S245760, .i32⟩
  | 81 => ⟨S_, .i32⟩
  | 82 => ⟨S245760, .i32⟩
  | 83 => ⟨S245760, .i32⟩
  | 84 => ⟨S_, .i32⟩
  | 85 => ⟨S245760, .i32⟩
  | 86 => ⟨S245760, .i1⟩
  | 87 => ⟨S_, .i32⟩
  | 88 => ⟨S245760, .i32⟩
  | 89 => ⟨S245760, .i32⟩
  | 90 => ⟨S245760, .i32⟩
  | 91 => ⟨S245760x1, .i32⟩
  | 92 => ⟨S245760x3, .f32⟩
  | 93 => ⟨S245760x3, .f32⟩
  | 94 => ⟨S_, .f32⟩
  | 95 => ⟨S245760, .f32⟩
  | _ => ⟨S3840x3, .f32⟩

abbrev hbmTy (i : Nat) : BufTy := match i / 128 with
  | 0 => hbmTy0_0 i
  | 1 => hbmTy0_1 i
  | 2 => hbmTy0_2 i
  | _ => ⟨S3840x3, .f32⟩

abbrev bufTy : (tb : Table) → Fin (tcTables nBuf tb) → BufTy
  | .hbm, ⟨i, _⟩ => hbmTy i
  | _, _ => ⟨S3840x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_cst : Ref sig .tc := ⟨.hbm, 65, rfl⟩
abbrev main_call1_v3 : Ref sig .tc := ⟨.hbm, 66, rfl⟩
abbrev main_call1_v4 : Ref sig .tc := ⟨.hbm, 67, rfl⟩
abbrev main_call1_cst_0 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_v15 : Ref sig .tc := ⟨.hbm, 80, rfl⟩
abbrev main_call1_v16 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_8 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_9 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_10 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_11 : Ref sig .tc := ⟨.hbm, 114, rfl⟩
abbrev main_v67 : Ref sig .tc := ⟨.hbm, 115, rfl⟩
abbrev main_v68 : Ref sig .tc := ⟨.hbm, 116, rfl⟩
abbrev main_cst_12 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_13 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_c_14 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_15 : Ref sig .tc := ⟨.hbm, 160, rfl⟩
abbrev main_v109 : Ref sig .tc := ⟨.hbm, 161, rfl⟩
abbrev main_v110 : Ref sig .tc := ⟨.hbm, 162, rfl⟩
abbrev main_c_16 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_17 : Ref sig .tc := ⟨.hbm, 169, rfl⟩
abbrev main_v116 : Ref sig .tc := ⟨.hbm, 170, rfl⟩
abbrev main_v117 : Ref sig .tc := ⟨.hbm, 171, rfl⟩
abbrev main_c_18 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call2_v0 : Ref sig .tc := ⟨.hbm, 179, rfl⟩
abbrev main_call2_cst : Ref sig .tc := ⟨.hbm, 180, rfl⟩
abbrev main_call2_v1 : Ref sig .tc := ⟨.hbm, 181, rfl⟩
abbrev main_v124 : Ref sig .tc := ⟨.hbm, 182, rfl⟩
abbrev main_v125 : Ref sig .tc := ⟨.hbm, 183, rfl⟩
abbrev main_c_19 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_call3_v0 : Ref sig .tc := ⟨.hbm, 199, rfl⟩
abbrev main_call3_v1_0 : Ref sig .tc := ⟨.hbm, 200, rfl⟩
abbrev main_v140 : Ref sig .tc := ⟨.hbm, 201, rfl⟩
abbrev main_c_20 : Ref sig .tc := ⟨.hbm, 202, rfl⟩
abbrev main_v141 : Ref sig .tc := ⟨.hbm, 203, rfl⟩
abbrev main_v142 : Ref sig .tc := ⟨.hbm, 204, rfl⟩
abbrev main_c_21 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_call4_v0 : Ref sig .tc := ⟨.hbm, 218, rfl⟩
abbrev main_call4_v1_0 : Ref sig .tc := ⟨.hbm, 219, rfl⟩
abbrev main_call4_v1_1 : Ref sig .tc := ⟨.hbm, 220, rfl⟩
abbrev main_v155 : Ref sig .tc := ⟨.hbm, 221, rfl⟩
abbrev main_c_22 : Ref sig .tc := ⟨.hbm, 222, rfl⟩
abbrev main_v156 : Ref sig .tc := ⟨.hbm, 223, rfl⟩
abbrev main_v157 : Ref sig .tc := ⟨.hbm, 224, rfl⟩
abbrev main_c_23 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_c_24 : Ref sig .tc := ⟨.hbm, 231, rfl⟩
abbrev main_v163 : Ref sig .tc := ⟨.hbm, 232, rfl⟩
abbrev main_v164 : Ref sig .tc := ⟨.hbm, 233, rfl⟩
abbrev main_c_25 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_call5_v0 : Ref sig .tc := ⟨.hbm, 245, rfl⟩
abbrev main_call5_v1_0 : Ref sig .tc := ⟨.hbm, 246, rfl⟩
abbrev main_v175 : Ref sig .tc := ⟨.hbm, 247, rfl⟩
abbrev main_c_26 : Ref sig .tc := ⟨.hbm, 248, rfl⟩
abbrev main_v176 : Ref sig .tc := ⟨.hbm, 249, rfl⟩
abbrev main_v177 : Ref sig .tc := ⟨.hbm, 250, rfl⟩
abbrev main_c_27 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_call6_v0 : Ref sig .tc := ⟨.hbm, 264, rfl⟩
abbrev main_call6_v1_0 : Ref sig .tc := ⟨.hbm, 265, rfl⟩
abbrev main_call6_v1_1 : Ref sig .tc := ⟨.hbm, 266, rfl⟩
abbrev main_v190 : Ref sig .tc := ⟨.hbm, 267, rfl⟩
abbrev main_c_28 : Ref sig .tc := ⟨.hbm, 268, rfl⟩
abbrev main_v191 : Ref sig .tc := ⟨.hbm, 269, rfl⟩
abbrev main_v192 : Ref sig .tc := ⟨.hbm, 270, rfl⟩
abbrev main_c_29 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_c_30 : Ref sig .tc := ⟨.hbm, 277, rfl⟩
abbrev main_v198 : Ref sig .tc := ⟨.hbm, 278, rfl⟩
abbrev main_v199 : Ref sig .tc := ⟨.hbm, 279, rfl⟩
abbrev main_c_31 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_c_32 : Ref sig .tc := ⟨.hbm, 292, rfl⟩
abbrev main_v211 : Ref sig .tc := ⟨.hbm, 293, rfl⟩
abbrev main_v212 : Ref sig .tc := ⟨.hbm, 294, rfl⟩
abbrev main_c_33 : Ref sig .tc := ⟨.hbm, 295, rfl⟩
abbrev main_v213 : Ref sig .tc := ⟨.hbm, 296, rfl⟩
abbrev main_v214 : Ref sig .tc := ⟨.hbm, 297, rfl⟩
abbrev main_c_34 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_c_35 : Ref sig .tc := ⟨.hbm, 306, rfl⟩
abbrev main_v222 : Ref sig .tc := ⟨.hbm, 307, rfl⟩
abbrev main_v223 : Ref sig .tc := ⟨.hbm, 308, rfl⟩
abbrev main_c_36 : Ref sig .tc := ⟨.hbm, 309, rfl⟩
abbrev main_v224 : Ref sig .tc := ⟨.hbm, 310, rfl⟩
abbrev main_v225 : Ref sig .tc := ⟨.hbm, 311, rfl⟩
abbrev main_c_37 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_cst_38 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_c_39 : Ref sig .tc := ⟨.hbm, 323, rfl⟩
abbrev main_v235 : Ref sig .tc := ⟨.hbm, 324, rfl⟩
abbrev main_v236 : Ref sig .tc := ⟨.hbm, 325, rfl⟩
abbrev main_c_40 : Ref sig .tc := ⟨.hbm, 326, rfl⟩
abbrev main_v237 : Ref sig .tc := ⟨.hbm, 327, rfl⟩
abbrev main_v238 : Ref sig .tc := ⟨.hbm, 328, rfl⟩
abbrev main_c_41 : Ref sig .tc := ⟨.hbm, 329, rfl⟩
abbrev main_v239 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_v245 : Ref sig .tc := ⟨.hbm, 336, rfl⟩
abbrev main_c_42 : Ref sig .tc := ⟨.hbm, 337, rfl⟩
abbrev main_v246 : Ref sig .tc := ⟨.hbm, 338, rfl⟩
abbrev main_v247 : Ref sig .tc := ⟨.hbm, 339, rfl⟩
abbrev main_c_43 : Ref sig .tc := ⟨.hbm, 340, rfl⟩
abbrev main_v248 : Ref sig .tc := ⟨.hbm, 341, rfl⟩
abbrev main_v249 : Ref sig .tc := ⟨.hbm, 342, rfl⟩
abbrev main_c_44 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_cst_45 : Ref sig .tc := ⟨.hbm, 350, rfl⟩
abbrev main_v256 : Ref sig .tc := ⟨.hbm, 351, rfl⟩

abbrev nD : Nat := 1
abbrev τ : Topo := Topo.v7x

variable {F : FTy → Type} [FloatOps F]
-- ==== Proof.RefRun.lean ====
/- The reference's run and its stages. -/
module

public import proofs.«01_k».proof.Proof.Gen.ReferenceIdeal.Run
public import proofs.«01_k».proof.Proof.Gen.ReferenceIdeal.Read

@[expose] public section

end
-- ==== Proof.Vocab.lean ====
/-
  The geometry kernel's expressions, written once for every shift. The kernel unrolls its loops over the eight edge offsets; here
  each unrolled family is one term that takes the offset as a number. `VocabEq` says that the stored values are these terms, and
  `GeoValue` reads the terms at an index.
-/
module

public import proofs.«01_k».proof.Proof.Gen.KernelIdeal.Frame.Region0
public import Idealize.ShloMosaic.Lib.Pipeline.Value
public import Idealize.ShloMosaic.Lib.Pointwise

@[expose] public section

noncomputable section

namespace Cert.Mol

open Cert.KernelIdeal Cert.KernelIdeal.Gen Idealize.ShloMosaic Idealize.ShloMosaic.TcCoe

variable {F : FTy → Type} [FloatOps F]

/-- The rows from `sh` on of a 30-row array. -/
theorem slicesHi {sh : ℕ} (h : 0 < sh ∧ sh < 30) : S30x128.Slices ![sh, 0] ⟨2, ![30 - sh, 128]⟩ :=
  ⟨rfl, by intro a; match a with | ⟨0, _⟩ => (show sh + (30 - sh) ≤ 30; omega) | ⟨1, _⟩ => exact Nat.le_refl _⟩

/-- The first `sh` rows of a 30-row array. -/
theorem slicesLo {sh : ℕ} (h : 0 < sh ∧ sh < 30) : S30x128.Slices ![0, 0] ⟨2, ![sh, 128]⟩ :=
  ⟨rfl, by intro a; match a with | ⟨0, _⟩ => (show 0 + sh ≤ 30; omega) | ⟨1, _⟩ => exact Nat.le_refl _⟩

/-- Put one after the other they are 30 rows again. -/
theorem concatHiLo {sh : ℕ} (h : 0 < sh ∧ sh < 30) :
    Shape.Concatenates [(⟨2, ![30 - sh, 128]⟩ : Shape), ⟨2, ![sh, 128]⟩] S30x128 0 := by
  refine ⟨Nat.le_refl 2, ?_, ?_⟩
  · intro p hp
    rcases List.mem_cons.1 hp with rfl | hp
    · refine ⟨rfl, fun b hb => ?_⟩
      match b with
      | ⟨0, _⟩ => exact absurd rfl hb
      | ⟨1, _⟩ => rfl
    · obtain rfl := List.mem_singleton.1 hp
      refine ⟨rfl, fun b hb => ?_⟩
      match b with
      | ⟨0, _⟩ => exact absurd rfl hb
      | ⟨1, _⟩ => rfl
  · show (30 - sh) + (sh + 0) = 30
    omega

/-- The atoms moved `sh` places on, around the ring of 30. -/
def roll (sh : ℕ) (x : FVec F S30x128 .f32) : FVec F S30x128 .f32 :=
  if h : 0 < sh ∧ sh < 30 then
    concatenate S30x128 0 [⟨⟨2, ![30 - sh, 128]⟩, extractStridedSlice ⟨2, ![30 - sh, 128]⟩ ![sh, 0] x (slicesHi h)⟩,
      ⟨⟨2, ![sh, 128]⟩, extractStridedSlice ⟨2, ![sh, 128]⟩ ![0, 0] x (slicesLo h)⟩] (concatHiLo h)
  else x

/-- One coordinate of the edge vectors to the atom `sh` places on. -/
def delta (sh : ℕ) (x : FVec F S30x128 .f32) : FVec F S30x128 .f32 := subf (roll sh x) x

/-- The edge lengths. -/
def len (sh : ℕ) (x y z : FVec F S30x128 .f32) : FVec F S30x128 .f32 :=
  sqrt (addf (addf (mulf (delta sh x) (delta sh x)) (mulf (delta sh y) (delta sh y))) (mulf (delta sh z) (delta sh z)))

/-- One over the edge lengths, kept away from zero. -/
def inv (sh : ℕ) (x y z : FVec F S30x128 .f32) : FVec F S30x128 .f32 :=
  divf (broadcast S30x128 (Scalar.ofBits .f32 0x3F800000#32)) (maximumf (len sh x y z) (broadcast S30x128 (Scalar.ofBits .f32 0x2B8CBCCC#32)))

/-- One coordinate `c` of the edge directions. -/
def dir (sh : ℕ) (c : Fin 3) (x y z : FVec F S30x128 .f32) : FVec F S30x128 .f32 :=
  match c with
  | 0 => mulf (delta sh x) (inv sh x y z)
  | 1 => mulf (delta sh y) (inv sh x y z)
  | 2 => mulf (delta sh z) (inv sh x y z)

/-- The cosines of two edges out of one atom. -/
def cosSrc (i j : ℕ) (x y z : FVec F S30x128 .f32) : FVec F S30x128 .f32 :=
  addf (addf (mulf (dir (i + 1) 0 x y z) (dir (j + 1) 0 x y z)) (mulf (dir (i + 1) 1 x y z) (dir (j + 1) 1 x y z)))
    (mulf (dir (i + 1) 2 x y z) (dir (j + 1) 2 x y z))

/-- The cosines of edge `k1` of each atom and edge `k2` into the same atom. -/
def cosPair (k1 k2 : ℕ) (x y z : FVec F S30x128 .f32) : FVec F S30x128 .f32 :=
  addf (addf (mulf (dir (k1 + 1) 0 x y z) (roll ((k1 + 30 - k2) % 30) (dir (k2 + 1) 0 x y z)))
      (mulf (dir (k1 + 1) 1 x y z) (roll ((k1 + 30 - k2) % 30) (dir (k2 + 1) 1 x y z))))
    (mulf (dir (k1 + 1) 2 x y z) (roll ((k1 + 30 - k2) % 30) (dir (k2 + 1) 2 x y z)))

/-- The number inside its molecule of the atom that edge `k1` of atom `a` runs to, for all `a`. -/
def target (k1 : ℕ) : IVec S30x1 32 :=
  select (cmpi .sge (addi (iota .tc S30x1 32 [0] iota_S30x1_d0_w32) (broadcast S30x1 (BitVec.ofNat 32 (k1 + 1)))) (broadcast S30x1 30#32))
    (subi (addi (iota .tc S30x1 32 [0] iota_S30x1_d0_w32) (broadcast S30x1 (BitVec.ofNat 32 (k1 + 1)))) (broadcast S30x1 30#32))
    (addi (iota .tc S30x1 32 [0] iota_S30x1_d0_w32) (broadcast S30x1 (BitVec.ofNat 32 (k1 + 1))))

/-- `b - 1 - k2` of that number `b`. -/
def before (k1 k2 : ℕ) : IVec S30x1 32 :=
  subi (subi (target k1) (broadcast S30x1 1#32)) (broadcast S30x1 (BitVec.ofNat 32 k2))

/-- The place of edge `k2` among the edges into that atom, in the order of the edge list. -/
def place (k1 k2 : ℕ) : IVec S30x1 32 :=
  select (cmpi .sge (target k1) (broadcast S30x1 8#32)) (broadcast S30x1 (BitVec.ofNat 32 (7 - k2)))
    (select (cmpi .slt (before k1 k2) (broadcast S30x1 0#32)) (addi (before k1 k2) (broadcast S30x1 8#32)) (before k1 k2))

/-- The cosine where the edge's place is `j`, zero elsewhere. -/
def cosAt (k1 k2 j : ℕ) (x y z : FVec F S30x128 .f32) : FVec F S30x128 .f32 :=
  mulf (cosPair k1 k2 x y z)
    (broadcastTo S30x128 (sitofp .f32 (extui 32 (cmpi .eq (place k1 k2) (broadcast S30x1 (BitVec.ofNat 32 j))) natLt_1_32)) broadcasts_S30x1_S30x128)

/-- The sum of those over the eight edges into the atom. -/
def cosDst (k1 j : ℕ) (x y z : FVec F S30x128 .f32) : FVec F S30x128 .f32 :=
  addf (addf (addf (addf (addf (addf (addf (cosAt k1 0 j x y z) (cosAt k1 1 j x y z)) (cosAt k1 2 j x y z)) (cosAt k1 3 j x y z))
    (cosAt k1 4 j x y z)) (cosAt k1 5 j x y z)) (cosAt k1 6 j x y z)) (cosAt k1 7 j x y z)

/-! ### The pieces the kernel stores -/

theorem inb3 (k : Fin 8) : ∀ a, (![k.val, 0, 0] : Fin 3 → ℕ) a + S1x30x128.size a ≤ S8x30x128.size a := by
  intro a
  match a with
  | ⟨0, _⟩ => exact k.isLt
  | ⟨1, _⟩ => exact Nat.le_refl _
  | ⟨2, _⟩ => exact Nat.le_refl _

theorem inb4v (c : Fin 3) (k : Fin 8) : ∀ a, (![c.val, k.val, 0, 0] : Fin 4 → ℕ) a + S1x1x30x128.size a ≤ S3x8x30x128.size a := by
  intro a
  match a with
  | ⟨0, _⟩ => exact c.isLt
  | ⟨1, _⟩ => exact k.isLt
  | ⟨2, _⟩ => exact Nat.le_refl _
  | ⟨3, _⟩ => exact Nat.le_refl _

theorem inb4 (i j : Fin 8) : ∀ a, (![i.val, j.val, 0, 0] : Fin 4 → ℕ) a + S1x1x30x128.size a ≤ S8x8x30x128.size a := by
  intro a
  match a with
  | ⟨0, _⟩ => exact i.isLt
  | ⟨1, _⟩ => exact j.isLt
  | ⟨2, _⟩ => exact Nat.le_refl _
  | ⟨3, _⟩ => exact Nat.le_refl _

/-- The stored slab of lengths for one edge offset. -/
def lenPiece (x y z : FVec F S30x128 .f32) (k : Fin 8) : View.Piece (Elt F) S8x30x128 .f32 :=
  ⟨Rect.unit (s := S8x30x128) ![k.val, 0, 0] S1x30x128.size (inb3 k),
    shapeCast S1x30x128 (len (k.val + 1) x y z) shapeCasts_S30x128_S1x30x128⟩

/-- The stored slab of one coordinate of the directions for one edge offset. -/
def dirPiece (x y z : FVec F S30x128 .f32) (p : Fin 3 × Fin 8) : View.Piece (Elt F) S3x8x30x128 .f32 :=
  ⟨Rect.unit (s := S3x8x30x128) ![p.1.val, p.2.val, 0, 0] S1x1x30x128.size (inb4v p.1 p.2),
    shapeCast S1x1x30x128 (dir (p.2.val + 1) p.1 x y z) shapeCasts_S30x128_S1x1x30x128⟩

/-- The stored slab of same-source cosines for one pair of edge offsets: the kernel computes it once for the pair. -/
def srcPiece (x y z : FVec F S30x128 .f32) (p : Fin 8 × Fin 8) : View.Piece (Elt F) S8x8x30x128 .f32 :=
  ⟨Rect.unit (s := S8x8x30x128) ![p.1.val, p.2.val, 0, 0] S1x1x30x128.size (inb4 p.1 p.2),
    shapeCast S1x1x30x128 (cosSrc (min p.1.val p.2.val) (max p.1.val p.2.val) x y z) shapeCasts_S30x128_S1x1x30x128⟩

/-- The stored slab of same-destination cosines for an edge offset and a place. -/
def dstPiece (x y z : FVec F S30x128 .f32) (p : Fin 8 × Fin 8) : View.Piece (Elt F) S8x8x30x128 .f32 :=
  ⟨Rect.unit (s := S8x8x30x128) ![p.1.val, p.2.val, 0, 0] S1x1x30x128.size (inb4 p.1 p.2),
    shapeCast S1x1x30x128 (cosDst p.1.val p.2.val x y z) shapeCasts_S30x128_S1x1x30x128⟩

end Cert.Mol

end
-- ==== Proof.VocabEq.lean ====
/- The stored values of the geometry kernel are the terms of `Vocab`, slab by slab, in the order of the stores. -/
module

public import proofs.«01_k».proof.Proof.Vocab
public import Idealize.ShloMosaic.Lib.Tactic

@[expose] public section

noncomputable section

namespace Cert.Mol

open Cert.KernelIdeal Cert.KernelIdeal.Gen Idealize.ShloMosaic Idealize.ShloMosaic.TcCoe

variable {F : FTy → Type} [FloatOps F]

/-- The positions the kernel reads: a whole 30 x 128 block. -/
abbrev whole (x : Vec F S30x128 .f32) : FVec F S30x128 .f32 := k0_pay2 (View.ld x r0_0)

/-- The edge offsets in the order the lengths are stored, last first. -/
def lenOrder : List (Fin 8) :=
  [7, 6, 5, 4, 3, 2, 1, 0]

/-- The coordinates and edge offsets in the order the directions are stored, last first. -/
def dirOrder : List (Fin 3 × Fin 8) :=
  [(2, 7), (1, 7), (0, 7), (2, 6), (1, 6), (0, 6), (2, 5), (1, 5), (0, 5), (2, 4), (1, 4), (0, 4), (2, 3), (1, 3), (0, 3), (2, 2), (1, 2),
    (0, 2), (2, 1), (1, 1), (0, 1), (2, 0), (1, 0), (0, 0)]

/-- The pairs of edge offsets in the order the same-source cosines are stored, last first. -/
def srcOrder : List (Fin 8 × Fin 8) :=
  [(7, 7), (7, 6), (6, 7), (6, 6), (7, 5), (5, 7), (6, 5), (5, 6), (5, 5), (7, 4), (4, 7), (6, 4), (4, 6), (5, 4), (4, 5), (4, 4), (7, 3),
    (3, 7), (6, 3), (3, 6), (5, 3), (3, 5), (4, 3), (3, 4), (3, 3), (7, 2), (2, 7), (6, 2), (2, 6), (5, 2), (2, 5), (4, 2), (2, 4), (3, 2),
    (2, 3), (2, 2), (7, 1), (1, 7), (6, 1), (1, 6), (5, 1), (1, 5), (4, 1), (1, 4), (3, 1), (1, 3), (2, 1), (1, 2), (1, 1), (7, 0), (0, 7),
    (6, 0), (0, 6), (5, 0), (0, 5), (4, 0), (0, 4), (3, 0), (0, 3), (2, 0), (0, 2), (1, 0), (0, 1), (0, 0)]

/-- The edge offsets and places in the order the same-destination cosines are stored, last first. -/
def dstOrder : List (Fin 8 × Fin 8) :=
  [(7, 7), (7, 6), (7, 5), (7, 4), (7, 3), (7, 2), (7, 1), (7, 0), (6, 7), (6, 6), (6, 5), (6, 4), (6, 3), (6, 2), (6, 1), (6, 0), (5, 7),
    (5, 6), (5, 5), (5, 4), (5, 3), (5, 2), (5, 1), (5, 0), (4, 7), (4, 6), (4, 5), (4, 4), (4, 3), (4, 2), (4, 1), (4, 0), (3, 7), (3, 6),
    (3, 5), (3, 4), (3, 3), (3, 2), (3, 1), (3, 0), (2, 7), (2, 6), (2, 5), (2, 4), (2, 3), (2, 2), (2, 1), (2, 0), (1, 7), (1, 6), (1, 5),
    (1, 4), (1, 3), (1, 2), (1, 1), (1, 0), (0, 7), (0, 6), (0, 5), (0, 4), (0, 3), (0, 2), (0, 1), (0, 0)]

theorem out_len (x0 x1 x2 : Vec F S30x128 .f32) (x3 x4 x5 : Vec F S30x1x128 .f32) (x6 x7 x8 : Vec F S1x30x128 .f32) :
    out0_9 x0 x1 x2 x3 x4 x5 x6 x7 x8 = View.canon (lenOrder.map (lenPiece (whole x0) (whole x1) (whole x2))) := by
  sl_kernel_rfl

theorem out_dir (x0 x1 x2 : Vec F S30x128 .f32) (x3 x4 x5 : Vec F S30x1x128 .f32) (x6 x7 x8 : Vec F S1x30x128 .f32) :
    out0_10 x0 x1 x2 x3 x4 x5 x6 x7 x8 = View.canon (dirOrder.map (dirPiece (whole x0) (whole x1) (whole x2))) := by
  sl_kernel_rfl

theorem out_src (x0 x1 x2 : Vec F S30x128 .f32) (x3 x4 x5 : Vec F S30x1x128 .f32) (x6 x7 x8 : Vec F S1x30x128 .f32) :
    out0_11 x0 x1 x2 x3 x4 x5 x6 x7 x8 = View.canon (srcOrder.map (srcPiece (whole x0) (whole x1) (whole x2))) := by
  sl_kernel_rfl

theorem out_dst (x0 x1 x2 : Vec F S30x128 .f32) (x3 x4 x5 : Vec F S30x1x128 .f32) (x6 x7 x8 : Vec F S1x30x128 .f32) :
    out0_12 x0 x1 x2 x3 x4 x5 x6 x7 x8 = View.canon (dstOrder.map (dstPiece (whole x0) (whole x1) (whole x2))) := by
  sl_kernel_rfl

end Cert.Mol

end
-- ==== Proof.Spec.lean ====
/-
  What both programs compute, over the extended reals and the natural numbers. A molecule has 30 atoms and each atom has an edge to
  the next eight around the ring: edge number `e = 240 m + 8 a + k` runs from atom `a` of molecule `m` to atom `(a + k + 1) mod 30`.
-/
module

public import Idealize.ShloMosaic.PureOps.Ideal
public import Idealize.ShloMosaic.Lib.Pointwise

@[expose] public section

noncomputable section

namespace Cert.Mol

open Idealize.ShloMosaic

/-- The smallest length a direction is divided by. -/
def tiny : EReal := Ideal.ofBits .f32 0x2B8CBCCC#32

theorem tiny_pos : 0 < tiny := by
  unfold tiny
  simp [Ideal.ofBits, Ideal.ieee, -EReal.coe_mul]

/-- An edge vector's length. -/
def length3 (d : Fin 3 → EReal) : EReal := Ideal.sqrt (d 0 * d 0 + d 1 * d 1 + d 2 * d 2)

/-- The direction of a vector. -/
def unit3 (d : Fin 3 → EReal) (c : Fin 3) : EReal := Ideal.div (d c) (max (length3 d) tiny)

/-- The inner product of two vectors of three coordinates. -/
def dot3 (u v : Fin 3 → EReal) : EReal := u 0 * v 0 + u 1 * v 1 + u 2 * v 2

/-- The atom an edge starts from. -/
def srcOf (e : ℕ) : ℕ := 30 * (e / 240) + e % 240 / 8

/-- The atom an edge runs to. -/
def dstOf (e : ℕ) : ℕ := 30 * (e / 240) + (e % 240 / 8 + e % 8 + 1) % 30

/-- The place of the edge with offset `k` among the edges into atom `b` of a molecule, and also the offset of the edge with place `k`. -/
def placeOf (b k : ℕ) : ℕ := if 8 ≤ b then 7 - k else if b < k + 1 then b + 7 - k else b - 1 - k

/-- The number of the edge with place `j` among the edges into atom `n`. -/
def intoOf (n j : ℕ) : ℕ := 240 * (n / 30) + 8 * ((n % 30 + 29 - placeOf (n % 30) j) % 30) + placeOf (n % 30) j

/-- The positions of the atoms. -/
abbrev Pos := (⟨2, ![3840, 3]⟩ : Shape).Idx → EReal

/-- The coordinates of an atom. -/
def atomAt (x : Pos) (n : ℕ) (c : Fin 3) : EReal := x (ix2 (Fin.ofNat 3840 n) c)

theorem atomAt_eq (x : Pos) (n : ℕ) (c : Fin 3) (b : Fin 3840) (h : b.val = n) : x (ix2 b c) = atomAt x n c := by
  subst h
  exact congrArg (fun b => x (ix2 b c)) (Fin.ext (Nat.mod_eq_of_lt b.isLt).symm)

/-- The vector from one atom to another. -/
def between (x : Pos) (p q : ℕ) (c : Fin 3) : EReal := atomAt x q c - atomAt x p c

/-- The vector of an edge. -/
def edgeAt (x : Pos) (e : ℕ) : Fin 3 → EReal := between x (srcOf e) (dstOf e)

/-- The direction of an edge. -/
def dirAt (x : Pos) (e : ℕ) : Fin 3 → EReal := unit3 (edgeAt x e)

/-- The cosine of two edges. -/
def cosAt2 (x : Pos) (e e' : ℕ) : EReal := dot3 (dirAt x e) (dirAt x e')

end Cert.Mol

end
-- ==== Proof.GeoValue.lean ====
/- The geometry kernel's terms at an index, as extended reals. -/
module

public import proofs.«01_k».proof.Proof.VocabEq
public import proofs.«01_k».proof.Proof.Spec
public import Idealize.ShloMosaic.Lib.IdealHost
public import Idealize.ShloMosaic.Lib.ValueIdx

@[expose] public section

noncomputable section

namespace Cert.Mol

open Cert.KernelIdeal Cert.KernelIdeal.Gen Idealize.ShloMosaic Idealize.ShloMosaic.TcCoe

/-- The atom `sh` places on, around the ring of 30. -/
def nxt (a : Fin 30) (sh : ℕ) : Fin 30 := ⟨(a.val + sh) % 30, Nat.mod_lt _ (by norm_num)⟩

theorem roll_apply {F : FTy → Type} [FloatOps F] (sh : ℕ) (hsh : sh < 30) (x : FVec F S30x128 .f32) (a : Fin 30) (m : Fin 128) :
    roll sh x (ix2 a m) = x (ix2 (nxt a sh) m) := by
  unfold roll
  split
  case isTrue h =>
    by_cases ha : a.val < 30 - sh
    · refine (concatenate_pair_apply_left 0 _ _ (concatHiLo h) (ix2 a m) rfl (ix2 (⟨a.val, ha⟩ : Fin (30 - sh)) m) ?_).trans ?_
      · intro b
        match b with
        | ⟨0, _⟩ => rfl
        | ⟨1, _⟩ => rfl
      · refine extractStridedSlice_apply _ _ (slicesHi h) _ _ ?_
        intro b
        match b with
        | ⟨0, _⟩ => (show (a.val + sh) % 30 = sh + a.val; rw [Nat.mod_eq_of_lt (by omega)]; omega)
        | ⟨1, _⟩ => exact (Nat.zero_add _).symm
    · have hb : a.val - (30 - sh) < sh := by have := a.isLt; omega
      refine (concatenate_pair_apply_right 0 _ _ (concatHiLo h) (ix2 a m) rfl rfl (ix2 (⟨a.val - (30 - sh), hb⟩ : Fin sh) m) ?_ ?_).trans ?_
      · intro b hb'
        match b with
        | ⟨0, _⟩ => exact absurd rfl hb'
        | ⟨1, _⟩ => rfl
      · show a.val - (30 - sh) + (30 - sh) = a.val
        omega
      · refine extractStridedSlice_apply _ _ (slicesLo h) _ _ ?_
        intro b
        match b with
        | ⟨0, _⟩ => (show (a.val + sh) % 30 = 0 + (a.val - (30 - sh)); have := a.isLt; omega)
        | ⟨1, _⟩ => exact (Nat.zero_add _).symm
  case isFalse h =>
    have hz : sh = 0 := by omega
    subst hz
    refine congrArg x (congrArg (fun b => ix2 b m) (Fin.ext ?_))
    show a.val = (a.val + 0) % 30
    have := a.isLt
    omega

variable (x y z : FVec Ideal S30x128 .f32)

/-- The three coordinates of an atom. -/
def atom (a : Fin 30) (m : Fin 128) : Fin 3 → EReal := ![x (ix2 a m), y (ix2 a m), z (ix2 a m)]

/-- The edge from an atom to the atom `sh` places on. -/
def edge (sh : ℕ) (a : Fin 30) (m : Fin 128) (c : Fin 3) : EReal := atom x y z (nxt a sh) m c - atom x y z a m c

theorem len_apply (sh : ℕ) (hsh : sh < 30) (a : Fin 30) (m : Fin 128) : len sh x y z (ix2 a m) = length3 (edge x y z sh a m) := by
  show Ideal.sqrt ((roll sh x (ix2 a m) - x (ix2 a m)) * (roll sh x (ix2 a m) - x (ix2 a m))
    + (roll sh y (ix2 a m) - y (ix2 a m)) * (roll sh y (ix2 a m) - y (ix2 a m))
    + (roll sh z (ix2 a m) - z (ix2 a m)) * (roll sh z (ix2 a m) - z (ix2 a m))) = _
  rw [roll_apply sh hsh, roll_apply sh hsh, roll_apply sh hsh]
  rfl

theorem inv_apply (sh : ℕ) (hsh : sh < 30) (a : Fin 30) (m : Fin 128) :
    inv sh x y z (ix2 a m) = Ideal.div 1 (max (length3 (edge x y z sh a m)) tiny) := by
  rw [← len_apply x y z sh hsh, ← Ideal.ofBits_one_f32]
  rfl

theorem dir_apply (sh : ℕ) (hsh : sh < 30) (c : Fin 3) (a : Fin 30) (m : Fin 128) :
    dir sh c x y z (ix2 a m) = unit3 (edge x y z sh a m) c := by
  have hy : max (length3 (edge x y z sh a m)) tiny ≠ 0 := (lt_of_lt_of_le tiny_pos (le_max_right _ _)).ne'
  unfold unit3
  rw [← Ideal.mul_one_div hy, ← inv_apply x y z sh hsh]
  match c with
  | 0 => (show (roll sh x (ix2 a m) - x (ix2 a m)) * _ = _; rw [roll_apply sh hsh]; rfl)
  | 1 => (show (roll sh y (ix2 a m) - y (ix2 a m)) * _ = _; rw [roll_apply sh hsh]; rfl)
  | 2 => (show (roll sh z (ix2 a m) - z (ix2 a m)) * _ = _; rw [roll_apply sh hsh]; rfl)

theorem cosSrc_apply (i j : ℕ) (hi : i < 8) (hj : j < 8) (a : Fin 30) (m : Fin 128) :
    cosSrc i j x y z (ix2 a m) = dot3 (unit3 (edge x y z (i + 1) a m)) (unit3 (edge x y z (j + 1) a m)) := by
  unfold dot3
  simp only [← dir_apply x y z (i + 1) (by omega), ← dir_apply x y z (j + 1) (by omega)]
  rfl

theorem cosPair_apply (k1 k2 : ℕ) (hi : k1 < 8) (hj : k2 < 8) (a : Fin 30) (m : Fin 128) :
    cosPair k1 k2 x y z (ix2 a m)
      = dot3 (unit3 (edge x y z (k1 + 1) a m)) (unit3 (edge x y z (k2 + 1) (nxt a ((k1 + 30 - k2) % 30)) m)) := by
  unfold dot3
  simp only [← dir_apply x y z (k1 + 1) (by omega), ← dir_apply x y z (k2 + 1) (by omega), ← roll_apply ((k1 + 30 - k2) % 30) (Nat.mod_lt _ (by norm_num))]
  rfl

theorem dot3_comm (u v : Fin 3 → EReal) : dot3 u v = dot3 v u := by
  simp only [dot3, mul_comm]

/-! ### Which edge into an atom has which place -/

theorem place_word : ∀ (k1 k2 : Fin 8) (a : Fin 30),
    place k1.val k2.val (ix2 a 0) = BitVec.ofNat 32 (placeOf ((a.val + k1.val + 1) % 30) k2.val) := by
  decide +kernel

theorem placeOf_invol : ∀ (b : Fin 30) (k j : Fin 8), placeOf b.val k.val = j.val ↔ k.val = placeOf b.val j.val := by
  decide +kernel

theorem placeOf_lt : ∀ (b : Fin 30) (k : Fin 8), placeOf b.val k.val < 8 := by
  decide +kernel

theorem flag_eq {p q : ℕ} (hp : p < 8) (hq : q < 8) :
    ((((IntOp.cmpi .eq (BitVec.ofNat 32 p) (BitVec.ofNat 32 q)).setWidth 32).toInt : ℝ) : EReal) = if p = q then 1 else 0 := by
  by_cases h : p = q
  · subst h
    rw [IntOp.cmpi_eq_self, if_pos rfl]
    norm_num [BitVec.toInt]
  · have hne : BitVec.ofNat 32 p ≠ BitVec.ofNat 32 q := by
      intro he
      have := congrArg BitVec.toNat he
      simp only [BitVec.toNat_ofNat] at this
      omega
    have hc : IntOp.cmpi .eq (BitVec.ofNat 32 p) (BitVec.ofNat 32 q) = 0#1 := by
      show BitVec.ofBool (BitVec.ofNat 32 p == BitVec.ofNat 32 q) = 0#1
      rw [beq_eq_false_iff_ne.2 hne]
      rfl
    rw [hc, if_neg h]
    norm_num [BitVec.toInt]

/-- The kernel's selector at an atom, as the word comparison it is. -/
theorem flag_read (v : IVec S30x1 32) (w : BitVec 32) (a : Fin 30) (m : Fin 128) :
    broadcastTo S30x128 (sitofp (F := Ideal) .f32 (extui 32 (cmpi .eq v (broadcast S30x1 w)) natLt_1_32)) broadcasts_S30x1_S30x128 (ix2 a m)
      = ((((IntOp.cmpi .eq (v (ix2 a 0)) w).setWidth 32).toInt : ℝ) : EReal) := by
  pointwise
  rfl

theorem cosAt_apply (k1 k2 j : Fin 8) (a : Fin 30) (m : Fin 128) :
    cosAt k1.val k2.val j.val x y z (ix2 a m)
      = if k2.val = placeOf ((a.val + k1.val + 1) % 30) j.val then cosPair k1.val k2.val x y z (ix2 a m) else 0 := by
  have hb : (a.val + k1.val + 1) % 30 < 30 := Nat.mod_lt _ (by norm_num)
  have hp := placeOf_lt ⟨_, hb⟩ k2
  unfold cosAt
  rw [ValueIdx.mulf_apply, flag_read, place_word, flag_eq hp j.isLt]
  by_cases h : k2.val = placeOf ((a.val + k1.val + 1) % 30) j.val
  · rw [if_pos h, if_pos ((placeOf_invol ⟨_, hb⟩ k2 j).2 h), mul_one]
  · rw [if_neg h, if_neg (fun h' => h ((placeOf_invol ⟨_, hb⟩ k2 j).1 h')), mul_zero]

theorem cosDst_apply (k1 j : Fin 8) (a : Fin 30) (m : Fin 128) :
    cosDst k1.val j.val x y z (ix2 a m)
      = cosPair k1.val (placeOf ((a.val + k1.val + 1) % 30) j.val) x y z (ix2 a m) := by
  have hb : (a.val + k1.val + 1) % 30 < 30 := Nat.mod_lt _ (by norm_num)
  have hp : placeOf ((a.val + k1.val + 1) % 30) j.val < 8 := placeOf_lt ⟨_, hb⟩ j
  unfold cosDst
  simp only [ValueIdx.addf_apply]
  have e : ∀ k (hk : k < 8), cosAt k1.val k j.val x y z (ix2 a m)
      = if k = placeOf ((a.val + k1.val + 1) % 30) j.val then cosPair k1.val k x y z (ix2 a m) else 0 :=
    fun k hk => cosAt_apply x y z k1 ⟨k, hk⟩ j a m
  rw [e 0 (by norm_num), e 1 (by norm_num), e 2 (by norm_num), e 3 (by norm_num), e 4 (by norm_num), e 5 (by norm_num),
    e 6 (by norm_num), e 7 (by norm_num)]
  generalize placeOf ((a.val + k1.val + 1) % 30) j.val = p at hp ⊢
  interval_cases p <;> simp

end Cert.Mol

end
-- ==== Proof.GeoSlabs.lean ====
/- The four float blocks the geometry kernel stores slab by slab, read at an index. -/
module

public import proofs.«01_k».proof.Proof.GeoValue

@[expose] public section

noncomputable section

namespace Cert.Mol

open Cert.KernelIdeal Cert.KernelIdeal.Gen Idealize.ShloMosaic Idealize.ShloMosaic.TcCoe

theorem whole_eq {F : FTy → Type} [FloatOps F] (x : Vec F S30x128 .f32) : whole x = x := by
  have h : View.ld x r0_0 = x := View.ld_unit_zero (by funext a; match a with | ⟨0, _⟩ => rfl | ⟨1, _⟩ => rfl) _ x
  show shapeCast S30x128 (View.ld x r0_0) _ = x
  rw [h]
  exact shapeCast_id x _

/-- A rectangle's own indices are in it. -/
theorem emb_mem {s : Shape} (r : Rect s) (x : r.shape.Idx) : r.emb x ∈ r.set := by
  rw [← Rect.map_emb_univ]
  exact Finset.mem_map_of_mem _ (Finset.mem_univ _)

theorem mem_lenOrder : ∀ k : Fin 8, k ∈ lenOrder := by decide
theorem mem_dirOrder : ∀ p : Fin 3 × Fin 8, p ∈ dirOrder := by decide
theorem mem_srcOrder : ∀ p : Fin 8 × Fin 8, p ∈ srcOrder := by decide
theorem mem_dstOrder : ∀ p : Fin 8 × Fin 8, p ∈ dstOrder := by decide

theorem cast3 (v : S30x128.Idx → EReal) (h : S30x128.ShapeCasts S1x30x128) (o : Fin 1) (a : Fin 30) (m : Fin 128) :
    shapeCast S1x30x128 v h (ix3 o a m) = v (ix2 a m) := by
  obtain rfl : o = 0 := Subsingleton.elim _ _
  pointwise

theorem cast4 (v : S30x128.Idx → EReal) (h : S30x128.ShapeCasts S1x1x30x128) (o o' : Fin 1) (a : Fin 30) (m : Fin 128) :
    shapeCast S1x1x30x128 v h (ix4 o o' a m) = v (ix2 a m) := by
  obtain rfl : o = 0 := Subsingleton.elim _ _
  obtain rfl : o' = 0 := Subsingleton.elim _ _
  pointwise

theorem emb3 (k : Fin 8) (o : Fin 1) (a : Fin 30) (m : Fin 128) :
    (Rect.unit (s := S8x30x128) ![k.val, 0, 0] S1x30x128.size (inb3 k)).emb (ix3 o a m) = ix3 k a m := by
  obtain rfl : o = 0 := Subsingleton.elim _ _
  funext b
  match b with
  | ⟨0, _⟩ => exact Fin.ext (by show k.val + 1 * 0 = k.val; omega)
  | ⟨1, _⟩ => exact Fin.ext (by show 0 + 1 * a.val = a.val; omega)
  | ⟨2, _⟩ => exact Fin.ext (by show 0 + 1 * m.val = m.val; omega)

theorem emb4v (c : Fin 3) (k : Fin 8) (o o' : Fin 1) (a : Fin 30) (m : Fin 128) :
    (Rect.unit (s := S3x8x30x128) ![c.val, k.val, 0, 0] S1x1x30x128.size (inb4v c k)).emb (ix4 o o' a m) = ix4 c k a m := by
  obtain rfl : o = 0 := Subsingleton.elim _ _
  obtain rfl : o' = 0 := Subsingleton.elim _ _
  funext b
  match b with
  | ⟨0, _⟩ => exact Fin.ext (by show c.val + 1 * 0 = c.val; omega)
  | ⟨1, _⟩ => exact Fin.ext (by show k.val + 1 * 0 = k.val; omega)
  | ⟨2, _⟩ => exact Fin.ext (by show 0 + 1 * a.val = a.val; omega)
  | ⟨3, _⟩ => exact Fin.ext (by show 0 + 1 * m.val = m.val; omega)

theorem emb4 (i j : Fin 8) (o o' : Fin 1) (a : Fin 30) (m : Fin 128) :
    (Rect.unit (s := S8x8x30x128) ![i.val, j.val, 0, 0] S1x1x30x128.size (inb4 i j)).emb (ix4 o o' a m) = ix4 i j a m := by
  obtain rfl : o = 0 := Subsingleton.elim _ _
  obtain rfl : o' = 0 := Subsingleton.elim _ _
  funext b
  match b with
  | ⟨0, _⟩ => exact Fin.ext (by show i.val + 1 * 0 = i.val; omega)
  | ⟨1, _⟩ => exact Fin.ext (by show j.val + 1 * 0 = j.val; omega)
  | ⟨2, _⟩ => exact Fin.ext (by show 0 + 1 * a.val = a.val; omega)
  | ⟨3, _⟩ => exact Fin.ext (by show 0 + 1 * m.val = m.val; omega)

variable (x0 x1 x2 : Vec Ideal S30x128 .f32) (x3 x4 x5 : Vec Ideal S30x1x128 .f32) (x6 x7 x8 : Vec Ideal S1x30x128 .f32)

theorem out_len_apply (k : Fin 8) (a : Fin 30) (m : Fin 128) :
    out0_9 x0 x1 x2 x3 x4 x5 x6 x7 x8 (ix3 k a m) = length3 (edge x0 x1 x2 (k.val + 1) a m) := by
  rw [out_len, whole_eq, whole_eq, whole_eq]
  refine View.canon_apply_of_pieces (Val := Elt Ideal) (S := S8x30x128) (e := .f32) (fun y => length3 (edge x0 x1 x2 ((y 0).val + 1) (y 1) (y 2))) _ ?_ _ ?_
  · intro p hp i
    obtain ⟨k, -, rfl⟩ := List.mem_map.1 hp
    obtain ⟨o, a, m, rfl⟩ : ∃ (o : Fin 1) (a : Fin 30) (m : Fin 128), i = ix3 o a m := ⟨_, _, _, eq_ix3 i⟩
    refine (cast3 _ _ o a m).trans ((len_apply x0 x1 x2 (k.val + 1) (by omega) a m).trans ?_)
    exact (congrArg (fun y : S8x30x128.Idx => length3 (edge x0 x1 x2 ((y 0).val + 1) (y 1) (y 2))) (emb3 k o a m)).symm
  · refine ⟨_, List.mem_map.2 ⟨k, mem_lenOrder k, rfl⟩, ?_⟩
    exact (congrArg (· ∈ _) (emb3 k 0 a m)).mp (emb_mem _ _)

theorem out_dir_apply (c : Fin 3) (k : Fin 8) (a : Fin 30) (m : Fin 128) :
    out0_10 x0 x1 x2 x3 x4 x5 x6 x7 x8 (ix4 c k a m) = unit3 (edge x0 x1 x2 (k.val + 1) a m) c := by
  rw [out_dir, whole_eq, whole_eq, whole_eq]
  refine View.canon_apply_of_pieces (Val := Elt Ideal) (S := S3x8x30x128) (e := .f32) (fun y => unit3 (edge x0 x1 x2 ((y 1).val + 1) (y 2) (y 3)) (y 0)) _ ?_ _ ?_
  · intro p hp i
    obtain ⟨⟨c, k⟩, -, rfl⟩ := List.mem_map.1 hp
    obtain ⟨o, o', a, m, rfl⟩ : ∃ (o o' : Fin 1) (a : Fin 30) (m : Fin 128), i = ix4 o o' a m := ⟨_, _, _, _, eq_ix4 i⟩
    refine (cast4 _ _ o o' a m).trans ((dir_apply x0 x1 x2 (k.val + 1) (by omega) c a m).trans ?_)
    exact (congrArg (fun y : S3x8x30x128.Idx => unit3 (edge x0 x1 x2 ((y 1).val + 1) (y 2) (y 3)) (y 0)) (emb4v c k o o' a m)).symm
  · refine ⟨_, List.mem_map.2 ⟨(c, k), mem_dirOrder _, rfl⟩, ?_⟩
    exact (congrArg (· ∈ _) (emb4v c k 0 0 a m)).mp (emb_mem _ _)

theorem out_src_apply (i j : Fin 8) (a : Fin 30) (m : Fin 128) :
    out0_11 x0 x1 x2 x3 x4 x5 x6 x7 x8 (ix4 i j a m)
      = dot3 (unit3 (edge x0 x1 x2 (i.val + 1) a m)) (unit3 (edge x0 x1 x2 (j.val + 1) a m)) := by
  rw [out_src, whole_eq, whole_eq, whole_eq]
  refine View.canon_apply_of_pieces (Val := Elt Ideal) (S := S8x8x30x128) (e := .f32)
    (fun y => dot3 (unit3 (edge x0 x1 x2 ((y 0).val + 1) (y 2) (y 3))) (unit3 (edge x0 x1 x2 ((y 1).val + 1) (y 2) (y 3)))) _ ?_ _ ?_
  · intro p hp q
    obtain ⟨⟨i, j⟩, -, rfl⟩ := List.mem_map.1 hp
    obtain ⟨o, o', a, m, rfl⟩ : ∃ (o o' : Fin 1) (a : Fin 30) (m : Fin 128), q = ix4 o o' a m := ⟨_, _, _, _, eq_ix4 q⟩
    refine (cast4 _ _ o o' a m).trans ((cosSrc_apply x0 x1 x2 _ _ (by simp) (by simp) a m).trans ?_)
    refine Eq.trans ?_ (congrArg (fun y : S8x8x30x128.Idx => dot3 (unit3 (edge x0 x1 x2 ((y 0).val + 1) (y 2) (y 3)))
      (unit3 (edge x0 x1 x2 ((y 1).val + 1) (y 2) (y 3)))) (emb4 i j o o' a m)).symm
    show _ = dot3 (unit3 (edge x0 x1 x2 (i.val + 1) a m)) (unit3 (edge x0 x1 x2 (j.val + 1) a m))
    rcases le_total i.val j.val with h | h
    · rw [min_eq_left h, max_eq_right h]
    · rw [min_eq_right h, max_eq_left h, dot3_comm]
  · refine ⟨_, List.mem_map.2 ⟨(i, j), mem_srcOrder _, rfl⟩, ?_⟩
    exact (congrArg (· ∈ _) (emb4 i j 0 0 a m)).mp (emb_mem _ _)

/-- The cosine of edge `i` of an atom and the edge of place `j` into the atom it runs to. -/
def pairAt (i j : Fin 8) (a : Fin 30) (m : Fin 128) : EReal :=
  dot3 (unit3 (edge x0 x1 x2 (i.val + 1) a m)) (unit3 (edge x0 x1 x2 (placeOf ((a.val + i.val + 1) % 30) j.val + 1)
    (nxt a ((i.val + 30 - placeOf ((a.val + i.val + 1) % 30) j.val) % 30)) m))

theorem pairAt_eq (i j : Fin 8) (a : Fin 30) (m : Fin 128) : cosDst (F := Ideal) i.val j.val x0 x1 x2 (ix2 a m) = pairAt x0 x1 x2 i j a m :=
  (cosDst_apply x0 x1 x2 i j a m).trans
    (cosPair_apply x0 x1 x2 i.val _ i.isLt (placeOf_lt ⟨(a.val + i.val + 1) % 30, Nat.mod_lt _ (by norm_num)⟩ j) a m)

theorem out_dst_apply (i j : Fin 8) (a : Fin 30) (m : Fin 128) :
    out0_12 x0 x1 x2 x3 x4 x5 x6 x7 x8 (ix4 i j a m) = pairAt x0 x1 x2 i j a m := by
  rw [out_dst, whole_eq, whole_eq, whole_eq]
  refine View.canon_apply_of_pieces (Val := Elt Ideal) (S := S8x8x30x128) (e := .f32)
    (fun y => pairAt x0 x1 x2 (y 0) (y 1) (y 2) (y 3)) _ ?_ _ ?_
  · intro p hp q
    obtain ⟨⟨i, j⟩, -, rfl⟩ := List.mem_map.1 hp
    obtain ⟨o, o', a, m, rfl⟩ : ∃ (o o' : Fin 1) (a : Fin 30) (m : Fin 128), q = ix4 o o' a m := ⟨_, _, _, _, eq_ix4 q⟩
    refine (cast4 _ _ o o' a m).trans ((pairAt_eq x0 x1 x2 i j a m).trans ?_)
    exact (congrArg (fun y : S8x8x30x128.Idx => pairAt x0 x1 x2 (y 0) (y 1) (y 2) (y 3)) (emb4 i j o o' a m)).symm
  · refine ⟨_, List.mem_map.2 ⟨(i, j), mem_dstOrder _, rfl⟩, ?_⟩
    exact (congrArg (· ∈ _) (emb4 i j 0 0 a m)).mp (emb_mem _ _)

end Cert.Mol

end
-- ==== Proof.GeoWords.lean ====
/- The distances between all atoms and the integer blocks of the geometry kernel, read at an index. -/
module

public import proofs.«01_k».proof.Proof.GeoSlabs

@[expose] public section

noncomputable section

namespace Cert.Mol

open Cert.KernelIdeal Cert.KernelIdeal.Gen Idealize.ShloMosaic Idealize.ShloMosaic.TcCoe

theorem off3 : (![0, 0, 0] : Fin 3 → ℕ) = fun _ => 0 := funext fun a => by fin_cases a <;> rfl
theorem off2 : (![0, 0] : Fin 2 → ℕ) = fun _ => 0 := funext fun a => by fin_cases a <;> rfl

section
variable (x0 x1 x2 : Vec Ideal S30x128 .f32) (x3 x4 x5 : Vec Ideal S30x1x128 .f32) (x6 x7 x8 : Vec Ideal S1x30x128 .f32)

theorem out_all_apply (p q : Fin 30) (m : Fin 128) :
    out0_13 x0 x1 x2 x3 x4 x5 x6 x7 x8 (ix3 p q m)
      = length3 ![x3 (ix3 p 0 m) - x6 (ix3 0 q m), x4 (ix3 p 0 m) - x7 (ix3 0 q m), x5 (ix3 p 0 m) - x8 (ix3 0 q m)] := by
  have h3 : ∀ x : Vec Ideal S30x1x128 .f32, View.ld x r0_97 = x := fun x => View.ld_unit_zero off3 _ x
  have h6 : ∀ x : Vec Ideal S1x30x128 .f32, View.ld x r0_98 = x := fun x => View.ld_unit_zero off3 _ x
  unfold out0_13
  refine (congrFun (View.canon_unit_zero off3 _ _) _).trans ?_
  rw [h3, h3, h3, h6, h6, h6]
  unfold k0_pay1036 k0_pay1037 k0_pay1038 length3
  pointwise

end

/-! ### Words -/

theorem all0_word (m : Fin 128) (p q : Fin 30) : k0_pay1039 (ix3 m p q) = BitVec.ofNat 32 (30 * m.val + q.val) := by
  show iota .tc S128x30x30 32 [0] iota_S128x30x30_d0_w32 (ix3 m p q) * 30#32 + iota .tc S128x30x30 32 [2] iota_S128x30x30_d2_w32 (ix3 m p q) = _
  rw [iota_single_apply, iota_single_apply]
  show BitVec.ofNat 32 m.val * 30#32 + BitVec.ofNat 32 q.val = _
  apply BitVec.eq_of_toNat_eq
  simp [BitVec.toNat_add, BitVec.toNat_mul]
  omega

theorem all1_word (m : Fin 128) (p q : Fin 30) : k0_pay1040 (ix3 m p q) = BitVec.ofNat 32 (30 * m.val + p.val) := by
  show iota .tc S128x30x30 32 [0] iota_S128x30x30_d0_w32 (ix3 m p q) * 30#32 + iota .tc S128x30x30 32 [1] iota_S128x30x30_d1_w32 (ix3 m p q) = _
  rw [iota_single_apply, iota_single_apply]
  show BitVec.ofNat 32 m.val * 30#32 + BitVec.ofNat 32 p.val = _
  apply BitVec.eq_of_toNat_eq
  simp [BitVec.toNat_add, BitVec.toNat_mul]
  omega

/-- The number of an edge inside its molecule. -/
abbrev local2 : IVec S128x240 32 := iota .tc S128x240 32 [1] iota_S128x240_d1_w32

/-- The number of its molecule. -/
abbrev mol2 : IVec S128x240 32 := iota .tc S128x240 32 [0] iota_S128x240_d0_w32

theorem local2_word (m : Fin 128) (el : Fin 240) : local2 (ix2 m el) = BitVec.ofNat 32 el.val := iota_single_apply ..
theorem mol2_word (m : Fin 128) (el : Fin 240) : mol2 (ix2 m el) = BitVec.ofNat 32 m.val := iota_single_apply ..

/-- The source atom inside the molecule, as the kernel divides. -/
abbrev quo2 : IVec S128x240 32 := k0_pay1043 local2 8#32 k0_pay1041 k0_pay1042 (Scalar.cmpi .sgt 8#32 0#32)

/-- The destination atom inside the molecule. -/
abbrev tgt2 : IVec S128x240 32 := k0_pay1044 local2 8#32 k0_pay1041 k0_pay1042 (Scalar.cmpi .sgt 8#32 0#32)

theorem quo2_zero : ∀ el : Fin 240, quo2 (ix2 0 el) = BitVec.ofNat 32 (el.val / 8) := by decide +kernel
theorem tgt2_zero : ∀ el : Fin 240, tgt2 (ix2 0 el) = BitVec.ofNat 32 ((el.val / 8 + el.val % 8 + 1) % 30) := by decide +kernel
theorem quo2_word (m : Fin 128) (el : Fin 240) : quo2 (ix2 m el) = BitVec.ofNat 32 (el.val / 8) :=
  Eq.trans (by rfl) (quo2_zero el)
theorem tgt2_word (m : Fin 128) (el : Fin 240) : tgt2 (ix2 m el) = BitVec.ofNat 32 ((el.val / 8 + el.val % 8 + 1) % 30) :=
  Eq.trans (by rfl) (tgt2_zero el)

section
variable (x0 x1 x2 : Vec Ideal S30x128 .f32) (x3 x4 x5 : Vec Ideal S30x1x128 .f32) (x6 x7 x8 : Vec Ideal S1x30x128 .f32)

theorem out_all0_apply (m : Fin 128) (p q : Fin 30) :
    out0_14 x0 x1 x2 x3 x4 x5 x6 x7 x8 (ix3 m p q) = BitVec.ofNat 32 (30 * m.val + q.val) := by
  unfold out0_14
  refine (congrFun (View.canon_unit_zero off3 _ _) _).trans ?_
  exact all0_word m p q

theorem out_all1_apply (m : Fin 128) (p q : Fin 30) :
    out0_15 x0 x1 x2 x3 x4 x5 x6 x7 x8 (ix3 m p q) = BitVec.ofNat 32 (30 * m.val + p.val) := by
  unfold out0_15
  refine (congrFun (View.canon_unit_zero off3 _ _) _).trans ?_
  exact all1_word m p q

theorem out_srcw_apply (m : Fin 128) (el : Fin 240) :
    out0_16 x0 x1 x2 x3 x4 x5 x6 x7 x8 (ix2 m el) = BitVec.ofNat 32 (30 * m.val + el.val / 8) := by
  unfold out0_16
  refine (congrFun (View.canon_unit_zero off2 _ _) _).trans ?_
  show mol2 (ix2 m el) * 30#32 + quo2 (ix2 m el) = _
  rw [quo2_word, mol2_word]
  apply BitVec.eq_of_toNat_eq
  simp [BitVec.toNat_add, BitVec.toNat_mul]
  omega

theorem out_dstw_apply (m : Fin 128) (el : Fin 240) :
    out0_17 x0 x1 x2 x3 x4 x5 x6 x7 x8 (ix2 m el) = BitVec.ofNat 32 (30 * m.val + (el.val / 8 + el.val % 8 + 1) % 30) := by
  unfold out0_17
  refine (congrFun (View.canon_unit_zero off2 _ _) _).trans ?_
  show mol2 (ix2 m el) * 30#32 + tgt2 (ix2 m el) = _
  rw [tgt2_word, mol2_word]
  apply BitVec.eq_of_toNat_eq
  simp [BitVec.toNat_add, BitVec.toNat_mul]
  omega

theorem out_earr_apply (m : Fin 128) (el : Fin 240) :
    out0_18 x0 x1 x2 x3 x4 x5 x6 x7 x8 (ix2 m el) = BitVec.ofNat 32 (3840 + (240 * m.val + el.val)) := by
  unfold out0_18
  refine (congrFun (View.canon_unit_zero off2 _ _) _).trans ?_
  show 3840#32 + mol2 (ix2 m el) * 240#32 + local2 (ix2 m el) = _
  rw [mol2_word, local2_word]
  apply BitVec.eq_of_toNat_eq
  simp [BitVec.toNat_add, BitVec.toNat_mul]
  omega

end

/-- The kernel's divisor for remainders, which is 8. -/
abbrev eight : BitVec 32 := Scalar.select (Scalar.cmpi .eq 8#32 0#32) 1#32 8#32

/-- The number of an atom inside its molecule. -/
abbrev local3 : IVec S128x30x64 32 := iota .tc S128x30x64 32 [1] iota_S128x30x64_d1_w32

/-- The number of its molecule. -/
abbrev mol3 : IVec S128x30x64 32 := iota .tc S128x30x64 32 [0] iota_S128x30x64_d0_w32

theorem local3_word (m : Fin 128) (a : Fin 30) (l : Fin 64) : local3 (ix3 m a l) = BitVec.ofNat 32 a.val := iota_single_apply ..
theorem mol3_word (m : Fin 128) (a : Fin 30) (l : Fin 64) : mol3 (ix3 m a l) = BitVec.ofNat 32 m.val := iota_single_apply ..

abbrev rem3 : IVec S128x30x64 32 := k0_pay1052 eight k0_pay1050 k0_pay1051
abbrev place3 : IVec S128x30x64 32 := k0_pay1054 local3 k0_pay1049 eight k0_pay1050 k0_pay1051
abbrev from3 : IVec S128x30x64 32 := k0_pay1055 local3 k0_pay1049 eight k0_pay1050 k0_pay1051

theorem quo3_zero : ∀ l : Fin 64, k0_pay1049 (ix3 0 0 l) = BitVec.ofNat 32 (l.val / 8) := by decide +kernel
theorem rem3_zero : ∀ l : Fin 64, rem3 (ix3 0 0 l) = BitVec.ofNat 32 (l.val % 8) := by decide +kernel
theorem place3_zero : ∀ (a : Fin 30) (l : Fin 64),
    place3 (ix3 0 a l) = BitVec.ofNat 32 (placeOf ((a.val + l.val / 8 + 1) % 30) (l.val % 8)) := by decide +kernel
theorem from3_zero : ∀ (a : Fin 30) (l : Fin 64),
    from3 (ix3 0 a l)
      = BitVec.ofNat 32 (((a.val + l.val / 8 + 1) % 30 + 29 - placeOf ((a.val + l.val / 8 + 1) % 30) (l.val % 8)) % 30) := by
  decide +kernel

theorem quo3_word (m : Fin 128) (a : Fin 30) (l : Fin 64) : k0_pay1049 (ix3 m a l) = BitVec.ofNat 32 (l.val / 8) :=
  Eq.trans (by rfl) (quo3_zero l)
theorem rem3_word (m : Fin 128) (a : Fin 30) (l : Fin 64) : rem3 (ix3 m a l) = BitVec.ofNat 32 (l.val % 8) :=
  Eq.trans (by rfl) (rem3_zero l)
theorem place3_word (m : Fin 128) (a : Fin 30) (l : Fin 64) :
    place3 (ix3 m a l) = BitVec.ofNat 32 (placeOf ((a.val + l.val / 8 + 1) % 30) (l.val % 8)) :=
  Eq.trans (by rfl) (place3_zero a l)
theorem from3_word (m : Fin 128) (a : Fin 30) (l : Fin 64) :
    from3 (ix3 m a l)
      = BitVec.ofNat 32 (((a.val + l.val / 8 + 1) % 30 + 29 - placeOf ((a.val + l.val / 8 + 1) % 30) (l.val % 8)) % 30) :=
  Eq.trans (by rfl) (from3_zero a l)

section
variable (x0 x1 x2 : Vec Ideal S30x128 .f32) (x3 x4 x5 : Vec Ideal S30x1x128 .f32) (x6 x7 x8 : Vec Ideal S1x30x128 .f32)

theorem out_dnd_apply (m : Fin 128) (a : Fin 30) (l : Fin 64) :
    out0_19 x0 x1 x2 x3 x4 x5 x6 x7 x8 (ix3 m a l)
      = BitVec.ofNat 32 (3840 + intoOf (30 * m.val + (a.val + l.val / 8 + 1) % 30) (l.val % 8)) := by
  unfold out0_19
  refine (congrFun (View.canon_unit_zero off3 _ _) _).trans ?_
  show 3840#32 + mol3 (ix3 m a l) * 240#32 + from3 (ix3 m a l) * 8#32 + place3 (ix3 m a l) = _
  rw [from3_word, place3_word, mol3_word]
  unfold intoOf
  have hb : (a.val + l.val / 8 + 1) % 30 < 30 := Nat.mod_lt _ (by norm_num)
  have e1 : (30 * m.val + (a.val + l.val / 8 + 1) % 30) / 30 = m.val := by omega
  have e2 : (30 * m.val + (a.val + l.val / 8 + 1) % 30) % 30 = (a.val + l.val / 8 + 1) % 30 := by omega
  rw [e1, e2]
  generalize (a.val + l.val / 8 + 1) % 30 = b
  generalize placeOf b (l.val % 8) = p
  generalize (b + 29 - p) % 30 = q
  apply BitVec.eq_of_toNat_eq
  simp [BitVec.toNat_add, BitVec.toNat_mul]
  omega

theorem emb_sns (r : Fin 2) (inb : ∀ a, (![r.val, 0, 0, 0] : Fin 4 → ℕ) a + S1x128x30x64.size a ≤ S2x128x30x64.size a)
    (o : Fin 1) (m : Fin 128) (a : Fin 30) (l : Fin 64) :
    (Rect.unit (s := S2x128x30x64) ![r.val, 0, 0, 0] S1x128x30x64.size inb).emb (ix4 o m a l) = ix4 r m a l := by
  obtain rfl : o = 0 := Subsingleton.elim _ _
  funext b
  match b with
  | ⟨0, _⟩ => exact Fin.ext (by show r.val + 1 * 0 = r.val; omega)
  | ⟨1, _⟩ => exact Fin.ext (by show 0 + 1 * m.val = m.val; omega)
  | ⟨2, _⟩ => exact Fin.ext (by show 0 + 1 * a.val = a.val; omega)
  | ⟨3, _⟩ => exact Fin.ext (by show 0 + 1 * l.val = l.val; omega)

theorem cast4i (v : IVec S128x30x64 32) (h : S128x30x64.ShapeCasts S1x128x30x64) (o : Fin 1) (m : Fin 128) (a : Fin 30) (l : Fin 64) :
    shapeCast S1x128x30x64 v h (ix4 o m a l) = v (ix3 m a l) := by
  obtain rfl : o = 0 := Subsingleton.elim _ _
  pointwise

theorem sns_word (m : Fin 128) (a : Fin 30) (l : Fin 64) (t : ℕ) :
    3840#32 + (BitVec.ofNat 32 m.val * 30#32 + BitVec.ofNat 32 a.val) * 8#32 + BitVec.ofNat 32 t
      = BitVec.ofNat 32 (3840 + (240 * m.val + 8 * a.val + t)) := by
  apply BitVec.eq_of_toNat_eq
  simp [BitVec.toNat_add, BitVec.toNat_mul]
  omega

theorem inb_sns (r : Fin 2) : ∀ a, (![r.val, 0, 0, 0] : Fin 4 → ℕ) a + S1x128x30x64.size a ≤ S2x128x30x64.size a := by
  intro a
  match a with
  | ⟨0, _⟩ => exact r.isLt
  | ⟨1, _⟩ => exact Nat.le_refl _
  | ⟨2, _⟩ => exact Nat.le_refl _
  | ⟨3, _⟩ => exact Nat.le_refl _

/-- One of the two numbers of a pair of edges with one source: the first number takes the quotient, the second the remainder. -/
def snsRow (r : Fin 2) : IVec S128x30x64 32 :=
  addi (addi (broadcast S128x30x64 3840#32) (muli (addi (muli mol3 (broadcast S128x30x64 30#32)) local3)
    (broadcast S128x30x64 8#32))) (match r with | 0 => k0_pay1049 | 1 => rem3)

/-- Its stored slab. -/
def snsPiece (r : Fin 2) : View.Piece (Elt Ideal) S2x128x30x64 .i32 :=
  ⟨Rect.unit (s := S2x128x30x64) ![r.val, 0, 0, 0] S1x128x30x64.size (inb_sns r),
    shapeCast S1x128x30x64 (snsRow r) shapeCasts_S128x30x64_S1x128x30x64⟩

theorem out_sns : out0_20 x0 x1 x2 x3 x4 x5 x6 x7 x8 = View.canon ([1, 0].map snsPiece) := by
  sl_kernel_rfl

/-- The number a pair's row holds. -/
def snsVal (r : Fin 2) (m : Fin 128) (a : Fin 30) (l : Fin 64) : BitVec 32 :=
  BitVec.ofNat 32 (3840 + (240 * m.val + 8 * a.val + if r = 0 then l.val / 8 else l.val % 8))

theorem snsRow_apply (r : Fin 2) (m : Fin 128) (a : Fin 30) (l : Fin 64) : snsRow r (ix3 m a l) = snsVal r m a l := by
  match r with
  | 0 =>
    show 3840#32 + (mol3 (ix3 m a l) * 30#32 + local3 (ix3 m a l)) * 8#32 + k0_pay1049 (ix3 m a l) = _
    rw [mol3_word, local3_word, quo3_word]
    exact sns_word m a l _
  | 1 =>
    show 3840#32 + (mol3 (ix3 m a l) * 30#32 + local3 (ix3 m a l)) * 8#32 + rem3 (ix3 m a l) = _
    rw [mol3_word, local3_word, rem3_word]
    exact sns_word m a l _

theorem out_sns_apply (r : Fin 2) (m : Fin 128) (a : Fin 30) (l : Fin 64) :
    out0_20 x0 x1 x2 x3 x4 x5 x6 x7 x8 (ix4 r m a l) = snsVal r m a l := by
  rw [out_sns]
  refine View.canon_apply_of_pieces (Val := Elt Ideal) (S := S2x128x30x64) (e := .i32)
    (fun y => snsVal (y 0) (y 1) (y 2) (y 3)) _ ?_ _ ?_
  · intro p hp i
    obtain ⟨r, -, rfl⟩ := List.mem_map.1 hp
    obtain ⟨o, m, a, l, rfl⟩ : ∃ (o : Fin 1) (m : Fin 128) (a : Fin 30) (l : Fin 64), i = ix4 o m a l := ⟨_, _, _, _, eq_ix4 i⟩
    refine (cast4i _ _ o m a l).trans ((snsRow_apply r m a l).trans ?_)
    exact (congrArg (fun y : S2x128x30x64.Idx => snsVal (y 0) (y 1) (y 2) (y 3)) (emb_sns r (inb_sns r) o m a l)).symm
  · refine ⟨_, List.mem_map.2 ⟨r, (by decide : ∀ r : Fin 2, r ∈ [1, 0]) r, rfl⟩, ?_⟩
    exact (congrArg (· ∈ _) (emb_sns r (inb_sns r) 0 m a l)).mp (emb_mem _ _)

end

end Cert.Mol

end
-- ==== Proof.GeoArrays.lean ====
/- The arrays the geometry kernel leaves: its one grid point's blocks are the whole arrays, so each output array ends at the value the body stores. -/
module

public import proofs.«01_k».proof.Proof.GeoWords

@[expose] public section

noncomputable section

namespace Cert.Mol

open Cert.KernelIdeal Cert.KernelIdeal.Gen Idealize.ShloMosaic Idealize.ShloMosaic.TcCoe

/-- Every index lies in the rectangle of full extents at offset zero. -/
theorem mem_unit_zero {S : Shape} {off : Fin S.rank → Nat} (h : off = fun _ => 0) (inb : ∀ a, off a + S.size a ≤ S.size a) (i : S.Idx) :
    i ∈ (Rect.unit (s := S) off S.size inb).set := by
  subst h
  show i ∈ (Rect.whole S).set
  rw [Rect.set_whole]
  exact Finset.mem_univ i

variable (V : (c : Dev nD) → (b : Ref sig .tc) → Buf (Elt Ideal) ((c : Thread nD τ).loc b)) (c : Dev nD)

/-- The geometry call's one grid point. -/
abbrev pt0 : Fin cfg0.N := ⟨0, lt_of_lt_of_eq Nat.one_pos N_0.symm⟩

theorem eq_pt0 (t : Fin cfg0.N) : t = pt0 := Fin.ext (by have h : t.val < 1 := lt_of_lt_of_eq t.isLt N_0; show t.val = 0; omega)

theorem in0 : iblk0 V c 0 pt0 = V c main_v9 := View.ld_unit_zero (funext fun a => by fin_cases a <;> rfl) _ _
theorem in1 : iblk0 V c 1 pt0 = V c main_v10 := View.ld_unit_zero (funext fun a => by fin_cases a <;> rfl) _ _
theorem in2 : iblk0 V c 2 pt0 = V c main_v11 := View.ld_unit_zero (funext fun a => by fin_cases a <;> rfl) _ _
theorem in3 : iblk0 V c 3 pt0 = V c main_v12 := View.ld_unit_zero (funext fun a => by fin_cases a <;> rfl) _ _
theorem in4 : iblk0 V c 4 pt0 = V c main_v13 := View.ld_unit_zero (funext fun a => by fin_cases a <;> rfl) _ _
theorem in5 : iblk0 V c 5 pt0 = V c main_v14 := View.ld_unit_zero (funext fun a => by fin_cases a <;> rfl) _ _
theorem in6 : iblk0 V c 6 pt0 = V c main_v15 := View.ld_unit_zero (funext fun a => by fin_cases a <;> rfl) _ _
theorem in7 : iblk0 V c 7 pt0 = V c main_v16 := View.ld_unit_zero (funext fun a => by fin_cases a <;> rfl) _ _
theorem in8 : iblk0 V c 8 pt0 = V c main_v17 := View.ld_unit_zero (funext fun a => by fin_cases a <;> rfl) _ _

theorem arr9 : (dat0 V c).arrAt 9 cfg0.N
    = out0_9 (V c main_v9) (V c main_v10) (V c main_v11) (V c main_v12) (V c main_v13) (V c main_v14) (V c main_v15) (V c main_v16) (V c main_v17) := by
  refine (dat0 V c).arrAt_eq_of_cover 9 _ (fun t _ => ?_) (fun i => ⟨pt0, flush0_9 _, ?_⟩)
  · obtain rfl := eq_pt0 t
    show (cfg0.win 9).cut (grid0.coords pt0) ((dat0 V c).after 9 pt0) = _
    rw [after0_9, in0, in1, in2, in3, in4, in5, in6, in7, in8]
    generalize out0_9 (V c main_v9) _ _ _ _ _ _ _ _ = G
    exact (View.ld_unit_zero (funext fun a => by fin_cases a <;> rfl) _ G).symm
  · show i ∈ ((View.whole main_v18_0).slice (win0_9.rect pt0)).set
    rw [View.set_slice_whole]
    exact mem_unit_zero (funext fun a => by fin_cases a <;> rfl) _ i

theorem arr10 : (dat0 V c).arrAt 10 cfg0.N
    = out0_10 (V c main_v9) (V c main_v10) (V c main_v11) (V c main_v12) (V c main_v13) (V c main_v14) (V c main_v15) (V c main_v16) (V c main_v17) := by
  refine (dat0 V c).arrAt_eq_of_cover 10 _ (fun t _ => ?_) (fun i => ⟨pt0, flush0_10 _, ?_⟩)
  · obtain rfl := eq_pt0 t
    show (cfg0.win 10).cut (grid0.coords pt0) ((dat0 V c).after 10 pt0) = _
    rw [after0_10, in0, in1, in2, in3, in4, in5, in6, in7, in8]
    generalize out0_10 (V c main_v9) _ _ _ _ _ _ _ _ = G
    exact (View.ld_unit_zero (funext fun a => by fin_cases a <;> rfl) _ G).symm
  · show i ∈ ((View.whole main_v18_1).slice (win0_10.rect pt0)).set
    rw [View.set_slice_whole]
    exact mem_unit_zero (funext fun a => by fin_cases a <;> rfl) _ i

theorem arr11 : (dat0 V c).arrAt 11 cfg0.N
    = out0_11 (V c main_v9) (V c main_v10) (V c main_v11) (V c main_v12) (V c main_v13) (V c main_v14) (V c main_v15) (V c main_v16) (V c main_v17) := by
  refine (dat0 V c).arrAt_eq_of_cover 11 _ (fun t _ => ?_) (fun i => ⟨pt0, flush0_11 _, ?_⟩)
  · obtain rfl := eq_pt0 t
    show (cfg0.win 11).cut (grid0.coords pt0) ((dat0 V c).after 11 pt0) = _
    rw [after0_11, in0, in1, in2, in3, in4, in5, in6, in7, in8]
    generalize out0_11 (V c main_v9) _ _ _ _ _ _ _ _ = G
    exact (View.ld_unit_zero (funext fun a => by fin_cases a <;> rfl) _ G).symm
  · show i ∈ ((View.whole main_v18_2).slice (win0_11.rect pt0)).set
    rw [View.set_slice_whole]
    exact mem_unit_zero (funext fun a => by fin_cases a <;> rfl) _ i

theorem arr12 : (dat0 V c).arrAt 12 cfg0.N
    = out0_12 (V c main_v9) (V c main_v10) (V c main_v11) (V c main_v12) (V c main_v13) (V c main_v14) (V c main_v15) (V c main_v16) (V c main_v17) := by
  refine (dat0 V c).arrAt_eq_of_cover 12 _ (fun t _ => ?_) (fun i => ⟨pt0, flush0_12 _, ?_⟩)
  · obtain rfl := eq_pt0 t
    show (cfg0.win 12).cut (grid0.coords pt0) ((dat0 V c).after 12 pt0) = _
    rw [after0_12, in0, in1, in2, in3, in4, in5, in6, in7, in8]
    generalize out0_12 (V c main_v9) _ _ _ _ _ _ _ _ = G
    exact (View.ld_unit_zero (funext fun a => by fin_cases a <;> rfl) _ G).symm
  · show i ∈ ((View.whole main_v18_3).slice (win0_12.rect pt0)).set
    rw [View.set_slice_whole]
    exact mem_unit_zero (funext fun a => by fin_cases a <;> rfl) _ i

theorem arr13 : (dat0 V c).arrAt 13 cfg0.N
    = out0_13 (V c main_v9) (V c main_v10) (V c main_v11) (V c main_v12) (V c main_v13) (V c main_v14) (V c main_v15) (V c main_v16) (V c main_v17) := by
  refine (dat0 V c).arrAt_eq_of_cover 13 _ (fun t _ => ?_) (fun i => ⟨pt0, flush0_13 _, ?_⟩)
  · obtain rfl := eq_pt0 t
    show (cfg0.win 13).cut (grid0.coords pt0) ((dat0 V c).after 13 pt0) = _
    rw [after0_13, in0, in1, in2, in3, in4, in5, in6, in7, in8]
    generalize out0_13 (V c main_v9) _ _ _ _ _ _ _ _ = G
    exact (View.ld_unit_zero (funext fun a => by fin_cases a <;> rfl) _ G).symm
  · show i ∈ ((View.whole main_v18_4).slice (win0_13.rect pt0)).set
    rw [View.set_slice_whole]
    exact mem_unit_zero (funext fun a => by fin_cases a <;> rfl) _ i

theorem arr14 : (dat0 V c).arrAt 14 cfg0.N
    = out0_14 (V c main_v9) (V c main_v10) (V c main_v11) (V c main_v12) (V c main_v13) (V c main_v14) (V c main_v15) (V c main_v16) (V c main_v17) := by
  refine (dat0 V c).arrAt_eq_of_cover 14 _ (fun t _ => ?_) (fun i => ⟨pt0, flush0_14 _, ?_⟩)
  · obtain rfl := eq_pt0 t
    show (cfg0.win 14).cut (grid0.coords pt0) ((dat0 V c).after 14 pt0) = _
    rw [after0_14, in0, in1, in2, in3, in4, in5, in6, in7, in8]
    generalize out0_14 (V c main_v9) _ _ _ _ _ _ _ _ = G
    exact (View.ld_unit_zero (funext fun a => by fin_cases a <;> rfl) _ G).symm
  · show i ∈ ((View.whole main_v18_5).slice (win0_14.rect pt0)).set
    rw [View.set_slice_whole]
    exact mem_unit_zero (funext fun a => by fin_cases a <;> rfl) _ i

theorem arr15 : (dat0 V c).arrAt 15 cfg0.N
    = out0_15 (V c main_v9) (V c main_v10) (V c main_v11) (V c main_v12) (V c main_v13) (V c main_v14) (V c main_v15) (V c main_v16) (V c main_v17) := by
  refine (dat0 V c).arrAt_eq_of_cover 15 _ (fun t _ => ?_) (fun i => ⟨pt0, flush0_15 _, ?_⟩)
  · obtain rfl := eq_pt0 t
    show (cfg0.win 15).cut (grid0.coords pt0) ((dat0 V c).after 15 pt0) = _
    rw [after0_15, in0, in1, in2, in3, in4, in5, in6, in7, in8]
    generalize out0_15 (V c main_v9) _ _ _ _ _ _ _ _ = G
    exact (View.ld_unit_zero (funext fun a => by fin_cases a <;> rfl) _ G).symm
  · show i ∈ ((View.whole main_v18_6).slice (win0_15.rect pt0)).set
    rw [View.set_slice_whole]
    exact mem_unit_zero (funext fun a => by fin_cases a <;> rfl) _ i

theorem arr16 : (dat0 V c).arrAt 16 cfg0.N
    = out0_16 (V c main_v9) (V c main_v10) (V c main_v11) (V c main_v12) (V c main_v13) (V c main_v14) (V c main_v15) (V c main_v16) (V c main_v17) := by
  refine (dat0 V c).arrAt_eq_of_cover 16 _ (fun t _ => ?_) (fun i => ⟨pt0, flush0_16 _, ?_⟩)
  · obtain rfl := eq_pt0 t
    show (cfg0.win 16).cut (grid0.coords pt0) ((dat0 V c).after 16 pt0) = _
    rw [after0_16, in0, in1, in2, in3, in4, in5, in6, in7, in8]
    generalize out0_16 (V c main_v9) _ _ _ _ _ _ _ _ = G
    exact (View.ld_unit_zero (funext fun a => by fin_cases a <;> rfl) _ G).symm
  · show i ∈ ((View.whole main_v18_7).slice (win0_16.rect pt0)).set
    rw [View.set_slice_whole]
    exact mem_unit_zero (funext fun a => by fin_cases a <;> rfl) _ i

theorem arr17 : (dat0 V c).arrAt 17 cfg0.N
    = out0_17 (V c main_v9) (V c main_v10) (V c main_v11) (V c main_v12) (V c main_v13) (V c main_v14) (V c main_v15) (V c main_v16) (V c main_v17) := by
  refine (dat0 V c).arrAt_eq_of_cover 17 _ (fun t _ => ?_) (fun i => ⟨pt0, flush0_17 _, ?_⟩)
  · obtain rfl := eq_pt0 t
    show (cfg0.win 17).cut (grid0.coords pt0) ((dat0 V c).after 17 pt0) = _
    rw [after0_17, in0, in1, in2, in3, in4, in5, in6, in7, in8]
    generalize out0_17 (V c main_v9) _ _ _ _ _ _ _ _ = G
    exact (View.ld_unit_zero (funext fun a => by fin_cases a <;> rfl) _ G).symm
  · show i ∈ ((View.whole main_v18_8).slice (win0_17.rect pt0)).set
    rw [View.set_slice_whole]
    exact mem_unit_zero (funext fun a => by fin_cases a <;> rfl) _ i

theorem arr18 : (dat0 V c).arrAt 18 cfg0.N
    = out0_18 (V c main_v9) (V c main_v10) (V c main_v11) (V c main_v12) (V c main_v13) (V c main_v14) (V c main_v15) (V c main_v16) (V c main_v17) := by
  refine (dat0 V c).arrAt_eq_of_cover 18 _ (fun t _ => ?_) (fun i => ⟨pt0, flush0_18 _, ?_⟩)
  · obtain rfl := eq_pt0 t
    show (cfg0.win 18).cut (grid0.coords pt0) ((dat0 V c).after 18 pt0) = _
    rw [after0_18, in0, in1, in2, in3, in4, in5, in6, in7, in8]
    generalize out0_18 (V c main_v9) _ _ _ _ _ _ _ _ = G
    exact (View.ld_unit_zero (funext fun a => by fin_cases a <;> rfl) _ G).symm
  · show i ∈ ((View.whole main_v18_9).slice (win0_18.rect pt0)).set
    rw [View.set_slice_whole]
    exact mem_unit_zero (funext fun a => by fin_cases a <;> rfl) _ i

theorem arr19 : (dat0 V c).arrAt 19 cfg0.N
    = out0_19 (V c main_v9) (V c main_v10) (V c main_v11) (V c main_v12) (V c main_v13) (V c main_v14) (V c main_v15) (V c main_v16) (V c main_v17) := by
  refine (dat0 V c).arrAt_eq_of_cover 19 _ (fun t _ => ?_) (fun i => ⟨pt0, flush0_19 _, ?_⟩)
  · obtain rfl := eq_pt0 t
    show (cfg0.win 19).cut (grid0.coords pt0) ((dat0 V c).after 19 pt0) = _
    rw [after0_19, in0, in1, in2, in3, in4, in5, in6, in7, in8]
    generalize out0_19 (V c main_v9) _ _ _ _ _ _ _ _ = G
    exact (View.ld_unit_zero (funext fun a => by fin_cases a <;> rfl) _ G).symm
  · show i ∈ ((View.whole main_v18_10).slice (win0_19.rect pt0)).set
    rw [View.set_slice_whole]
    exact mem_unit_zero (funext fun a => by fin_cases a <;> rfl) _ i

theorem arr20 : (dat0 V c).arrAt 20 cfg0.N
    = out0_20 (V c main_v9) (V c main_v10) (V c main_v11) (V c main_v12) (V c main_v13) (V c main_v14) (V c main_v15) (V c main_v16) (V c main_v17) := by
  refine (dat0 V c).arrAt_eq_of_cover 20 _ (fun t _ => ?_) (fun i => ⟨pt0, flush0_20 _, ?_⟩)
  · obtain rfl := eq_pt0 t
    show (cfg0.win 20).cut (grid0.coords pt0) ((dat0 V c).after 20 pt0) = _
    rw [after0_20, in0, in1, in2, in3, in4, in5, in6, in7, in8]
    generalize out0_20 (V c main_v9) _ _ _ _ _ _ _ _ = G
    exact (View.ld_unit_zero (funext fun a => by fin_cases a <;> rfl) _ G).symm
  · show i ∈ ((View.whole main_v18_11).slice (win0_20.rect pt0)).set
    rw [View.set_slice_whole]
    exact mem_unit_zero (funext fun a => by fin_cases a <;> rfl) _ i

end Cert.Mol

end
-- ==== Proof.KerRun.lean ====
/- The idealized kernel's run with its seven results at the last contents of their buffers, and the arguments as launched. -/
module

public import proofs.«01_k».proof.Proof.Gen.KernelIdeal.Frame

@[expose] public section

set_option maxRecDepth 16384

noncomputable section

namespace Cert.Mol

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each result at the last contents and each argument as launched. -/
theorem kerRun : θ_run defs (onTc (τ := τ) (main (F := F))) ⟨m, fun _ => 0, ρ⟩ (fun r => ∀ c : Dev nD,
      r.2.mem ((c.tc : Thread nD τ).loc main_v64) = W4 m ρ c (Proc.devRef .tc main_v64) ∧ r.2.mem ((c.tc : Thread nD τ).loc main_v55) = W4 m ρ c (Proc.devRef .tc main_v55) ∧ r.2.mem ((c.tc : Thread nD τ).loc main_v22) = W4 m ρ c (Proc.devRef .tc main_v22) ∧ r.2.mem ((c.tc : Thread nD τ).loc main_v31) = W4 m ρ c (Proc.devRef .tc main_v31) ∧ r.2.mem ((c.tc : Thread nD τ).loc main_v20) = W4 m ρ c (Proc.devRef .tc main_v20) ∧ r.2.mem ((c.tc : Thread nD τ).loc main_v28) = W4 m ρ c (Proc.devRef .tc main_v28) ∧ r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c _ (mem_uc main_v64 (by decide)), h c _ (mem_uc main_v55 (by decide)), h c _ (mem_uc main_v22 (by decide)), h c _ (mem_uc main_v31 (by decide)), h c _ (mem_uc main_v20 (by decide)), h c _ (mem_uc main_v28 (by decide)), h c _ (mem_uc main_v25 (by decide)), (h c _ (mem_uc main_arg0 (by decide))).trans (W4_main_arg0 m ρ c), (h c _ (mem_uc main_arg1 (by decide))).trans (W4_main_arg1 m ρ c), (h c _ (mem_uc main_arg2 (by decide))).trans (W4_main_arg2 m ρ c), (h c _ (mem_uc main_arg3 (by decide))).trans (W4_main_arg3 m ρ c), (h c _ (mem_uc main_arg4 (by decide))).trans (W4_main_arg4 m ρ c), (h c _ (mem_uc main_arg5 (by decide))).trans (W4_main_arg5 m ρ c), (h c _ (mem_uc main_arg6 (by decide))).trans (W4_main_arg6 m ρ c), (h c _ (mem_uc main_arg7 (by decide))).trans (W4_main_arg7 m ρ c), (h c _ (mem_uc main_arg8 (by decide))).trans (W4_main_arg8 m ρ c), (h c _ (mem_uc main_arg9 (by decide))).trans (W4_main_arg9 m ρ c), (h c _ (mem_uc main_arg10 (by decide))).trans (W4_main_arg10 m ρ c)⟩)

end Cert.Mol

end
-- ==== Proof.KerReads.lean ====
/- What the host operations around the geometry call compute, read at their arrays. -/
module

public import proofs.«01_k».proof.Proof.GeoArrays
public import proofs.«01_k».proof.Proof.KerRun
public import Idealize.ShloMosaic.Lib.StableHlo.RunRead

@[expose] public section

set_option maxRecDepth 16384

noncomputable section

namespace Cert.Mol

open Cert.KernelIdeal Cert.KernelIdeal.Gen Idealize.ShloMosaic Idealize.ShloMosaic.TcCoe

section
variable (W : Valuation τ sig (Elt Ideal))

/-- One coordinate of all atoms, as a table of atoms by molecules. -/
def coordTable (k : Fin 3) (x : FVec Ideal S3840x3 .f32) : FVec Ideal S30x128 .f32 :=
  match k with
  | 0 => transpose S30x128 [1, 0] (shapeCast S128x30 (shapeCast S3840 (extractStridedSlice S3840x1 ![0, 0] x slices_S3840x3_S3840x1_0_0) shapeCasts_S3840x1_S3840) shapeCasts_S3840_S128x30) transposes_S128x30_S30x128_1_0
  | 1 => transpose S30x128 [1, 0] (shapeCast S128x30 (shapeCast S3840 (extractStridedSlice S3840x1 ![0, 1] x slices_S3840x3_S3840x1_0_1) shapeCasts_S3840x1_S3840) shapeCasts_S3840_S128x30) transposes_S128x30_S30x128_1_0
  | 2 => transpose S30x128 [1, 0] (shapeCast S128x30 (shapeCast S3840 (extractStridedSlice S3840x1 ![0, 2] x slices_S3840x3_S3840x1_0_2) shapeCasts_S3840x1_S3840) shapeCasts_S3840_S128x30) transposes_S128x30_S30x128_1_0

theorem pre_v9 : StableHlo.after hostOps0 W (Proc.devRef .tc main_v9) = coordTable 0 (W (Proc.devRef .tc main_arg0)) := by
  after_reads_simp
  rfl
theorem pre_v12 : StableHlo.after hostOps0 W (Proc.devRef .tc main_v12) = shapeCast S30x1x128 (coordTable 0 (W (Proc.devRef .tc main_arg0))) shapeCasts_S30x128_S30x1x128 := by
  after_reads_simp
  rfl
theorem pre_v15 : StableHlo.after hostOps0 W (Proc.devRef .tc main_v15) = shapeCast S1x30x128 (coordTable 0 (W (Proc.devRef .tc main_arg0))) shapeCasts_S30x128_S1x30x128 := by
  after_reads_simp
  rfl
theorem pre_v10 : StableHlo.after hostOps0 W (Proc.devRef .tc main_v10) = coordTable 1 (W (Proc.devRef .tc main_arg0)) := by
  after_reads_simp
  rfl
theorem pre_v13 : StableHlo.after hostOps0 W (Proc.devRef .tc main_v13) = shapeCast S30x1x128 (coordTable 1 (W (Proc.devRef .tc main_arg0))) shapeCasts_S30x128_S30x1x128 := by
  after_reads_simp
  rfl
theorem pre_v16 : StableHlo.after hostOps0 W (Proc.devRef .tc main_v16) = shapeCast S1x30x128 (coordTable 1 (W (Proc.devRef .tc main_arg0))) shapeCasts_S30x128_S1x30x128 := by
  after_reads_simp
  rfl
theorem pre_v11 : StableHlo.after hostOps0 W (Proc.devRef .tc main_v11) = coordTable 2 (W (Proc.devRef .tc main_arg0)) := by
  after_reads_simp
  rfl
theorem pre_v14 : StableHlo.after hostOps0 W (Proc.devRef .tc main_v14) = shapeCast S30x1x128 (coordTable 2 (W (Proc.devRef .tc main_arg0))) shapeCasts_S30x128_S30x1x128 := by
  after_reads_simp
  rfl
theorem pre_v17 : StableHlo.after hostOps0 W (Proc.devRef .tc main_v17) = shapeCast S1x30x128 (coordTable 2 (W (Proc.devRef .tc main_arg0))) shapeCasts_S30x128_S1x30x128 := by
  after_reads_simp
  rfl

theorem post_v20 : StableHlo.after hostOps1 W (Proc.devRef .tc main_v20) = shapeCast S30720 (transpose S128x30x8 [2, 1, 0] (W (Proc.devRef .tc main_v18_0)) transposes_S8x30x128_S128x30x8_2_1_0) shapeCasts_S128x30x8_S30720 := by
  after_reads_simp
  try rfl

theorem post_v22 : StableHlo.after hostOps1 W (Proc.devRef .tc main_v22) = shapeCast S30720x3 (transpose S128x30x8x3 [3, 2, 1, 0] (W (Proc.devRef .tc main_v18_1)) transposes_S3x8x30x128_S128x30x8x3_3_2_1_0) shapeCasts_S128x30x8x3_S30720x3 := by
  after_reads_simp
  try rfl

theorem post_v25 : StableHlo.after hostOps1 W (Proc.devRef .tc main_v25) = shapeCast S245760 (shapeCast S3840x64 (transpose S128x30x8x8 [3, 2, 0, 1] (W (Proc.devRef .tc main_v18_2)) transposes_S8x8x30x128_S128x30x8x8_3_2_0_1) shapeCasts_S128x30x8x8_S3840x64) shapeCasts_S3840x64_S245760 := by
  after_reads_simp
  try rfl

theorem post_v28 : StableHlo.after hostOps1 W (Proc.devRef .tc main_v28) = shapeCast S245760 (shapeCast S3840x64 (transpose S128x30x8x8 [3, 2, 0, 1] (W (Proc.devRef .tc main_v18_3)) transposes_S8x8x30x128_S128x30x8x8_3_2_0_1) shapeCasts_S128x30x8x8_S3840x64) shapeCasts_S3840x64_S245760 := by
  after_reads_simp
  try rfl

theorem post_v31 : StableHlo.after hostOps1 W (Proc.devRef .tc main_v31) = shapeCast S115200 (shapeCast S3840x30 (transpose S128x30x30 [2, 0, 1] (W (Proc.devRef .tc main_v18_4)) transposes_S30x30x128_S128x30x30_2_0_1) shapeCasts_S128x30x30_S3840x30) shapeCasts_S3840x30_S115200 := by
  after_reads_simp
  try rfl

theorem post_v55 : StableHlo.after hostOps1 W (Proc.devRef .tc main_v55) = concatenate S2x668160 1 [⟨S2x115200, concatenate S2x115200 0 [⟨S1x115200, broadcastInDim S1x115200 ![1] bcast_S115200_S1x115200_1 (shapeCast S115200 (W (Proc.devRef .tc main_v18_5)) shapeCasts_S128x30x30_S115200)⟩, ⟨S1x115200, broadcastInDim S1x115200 ![1] bcast_S115200_S1x115200_1 (shapeCast S115200 (W (Proc.devRef .tc main_v18_6)) shapeCasts_S128x30x30_S115200)⟩] concatenates_S1x115200_S1x115200_S2x115200_d0⟩, ⟨S2x30720, concatenate S2x30720 0 [⟨S1x30720, broadcastInDim S1x30720 ![1] bcast_S30720_S1x30720_1 (shapeCast S30720 (W (Proc.devRef .tc main_v18_7)) shapeCasts_S128x240_S30720)⟩, ⟨S1x30720, broadcastInDim S1x30720 ![1] bcast_S30720_S1x30720_1 (shapeCast S30720 (W (Proc.devRef .tc main_v18_9)) shapeCasts_S128x240_S30720)⟩] concatenates_S1x30720_S1x30720_S2x30720_d0⟩, ⟨S2x30720, concatenate S2x30720 0 [⟨S1x30720, broadcastInDim S1x30720 ![1] bcast_S30720_S1x30720_1 (shapeCast S30720 (W (Proc.devRef .tc main_v18_9)) shapeCasts_S128x240_S30720)⟩, ⟨S1x30720, broadcastInDim S1x30720 ![1] bcast_S30720_S1x30720_1 (shapeCast S30720 (W (Proc.devRef .tc main_v18_8)) shapeCasts_S128x240_S30720)⟩] concatenates_S1x30720_S1x30720_S2x30720_d0⟩, ⟨S2x245760, concatenate S2x245760 0 [⟨S1x245760, broadcastInDim S1x245760 ![1] bcast_S245760_S1x245760_1 (shapeCast S245760 (broadcastInDim S30720x8 ![0] bcast_S30720_S30720x8_0 (shapeCast S30720 (W (Proc.devRef .tc main_v18_9)) shapeCasts_S128x240_S30720)) shapeCasts_S30720x8_S245760)⟩, ⟨S1x245760, broadcastInDim S1x245760 ![1] bcast_S245760_S1x245760_1 (shapeCast S245760 (W (Proc.devRef .tc main_v18_10)) shapeCasts_S128x30x64_S245760)⟩] concatenates_S1x245760_S1x245760_S2x245760_d0⟩, ⟨S2x245760, shapeCast S2x245760 (W (Proc.devRef .tc main_v18_11)) shapeCasts_S2x128x30x64_S2x245760⟩] concatenates_S2x115200_S2x30720_S2x30720_S2x245760_S2x245760_S2x668160_d1 := by
  after_reads_simp
  try rfl

theorem post_v58 : StableHlo.after hostOps1 W (Proc.devRef .tc main_v58) = Host.scatter scatter_S128x512_S1_S100x512_01_n_0_0 (fun _ b => b) (broadcastInDim S128x512 ![] bcast_S_S128x512 (constant (F := Ideal) S_ .f32 0x00000000#32)) (broadcastInDim S1 ![] bcast_S_S1 (constantI S_ 32 0#32)) (W (Proc.devRef .tc main_arg4)) := by
  after_reads_simp
  try rfl

theorem post_v59 : StableHlo.after hostOps1 W (Proc.devRef .tc main_v59) = shapeCast S2x512 (W (Proc.devRef .tc main_arg5)) shapeCasts_S2x1x512_S2x512 := by
  after_reads_simp
  try rfl

theorem post_v60 : StableHlo.after hostOps1 W (Proc.devRef .tc main_v60) = shapeCast S3840x1 (W (Proc.devRef .tc main_arg2)) shapeCasts_S3840_S3840x1 := by
  after_reads_simp
  try rfl

theorem post_v61 : StableHlo.after hostOps1 W (Proc.devRef .tc main_v61) = shapeCast S30720x1 (shapeCast S30720 (transpose S128x30x8 [2, 1, 0] (W (Proc.devRef .tc main_v18_0)) transposes_S8x30x128_S128x30x8_2_1_0) shapeCasts_S128x30x8_S30720) shapeCasts_S30720_S30720x1 := by
  after_reads_simp
  try rfl

theorem post_v62 : StableHlo.after hostOps1 W (Proc.devRef .tc main_v62) = shapeCast S1x1024 (W (Proc.devRef .tc main_arg7)) shapeCasts_S1024_S1x1024 := by
  after_reads_simp
  try rfl

theorem post_v63 : StableHlo.after hostOps1 W (Proc.devRef .tc main_v63) = shapeCast S1x512 (W (Proc.devRef .tc main_arg9)) shapeCasts_S512_S1x512 := by
  after_reads_simp
  try rfl

end

end Cert.Mol

end
-- ==== Proof.KerGeo.lean ====
/- The kernel's six arrays of lengths, directions, cosines and words, read at an index in terms of the atoms' positions. -/
module

public import proofs.«01_k».proof.Proof.KerReads
public import proofs.«01_k».proof.Proof.Spec

@[expose] public section

set_option maxRecDepth 16384

noncomputable section

namespace Cert.Mol

open Cert.KernelIdeal Cert.KernelIdeal.Gen Idealize.ShloMosaic Idealize.ShloMosaic.TcCoe

variable (x : FVec Ideal S3840x3 .f32)

/-- The number of an atom. -/
def atomNo (m : Fin 128) (a : Fin 30) : Fin 3840 := ⟨30 * m.val + a.val, by omega⟩

theorem coordTable_apply (k : Fin 3) (a : Fin 30) (m : Fin 128) : coordTable k x (ix2 a m) = atomAt x (30 * m.val + a.val) k := by
  have key : ∀ (j : Fin 3) (h : S3840x3.Slices ![0, j.val] S3840x1),
      transpose S30x128 [1, 0] (shapeCast S128x30 (shapeCast S3840 (extractStridedSlice S3840x1 ![0, j.val] x h) shapeCasts_S3840x1_S3840)
        shapeCasts_S3840_S128x30) transposes_S128x30_S30x128_1_0 (ix2 a m) = x (ix2 (atomNo m a) j) := by
    intro j h
    refine (transpose_apply _ _ _ _ (ix2 m a) fun c => match c with | ⟨0, _⟩ => rfl | ⟨1, _⟩ => rfl).trans ?_
    refine (shapeCast_apply _ _ _ (ix1 (atomNo m a)) ?_).trans ?_
    · rw [rowMajor_val1, rowMajor_val2 _ 30 rfl]
      show 30 * m.val + a.val = m.val * 30 + a.val
      omega
    refine (shapeCast_apply _ _ _ (ix2 (atomNo m a) 0) ?_).trans ?_
    · rw [rowMajor_val1, rowMajor_val2 _ 1 rfl]
      show (atomNo m a).val * 1 + 0 = (atomNo m a).val
      omega
    exact extractStridedSlice_apply _ _ _ _ _ fun c => match c with
      | ⟨0, _⟩ => (Nat.zero_add _).symm
      | ⟨1, _⟩ => (Nat.add_zero _).symm
  refine Eq.trans ?_ (atomAt_eq x _ k (atomNo m a) rfl)
  match k with
  | 0 => exact key 0 _
  | 1 => exact key 1 _
  | 2 => exact key 2 _

/-- One coordinate of all atoms, with a unit axis in the middle, -/
abbrev rowTable (k : Fin 3) : FVec Ideal S30x1x128 .f32 := shapeCast S30x1x128 (coordTable k x) shapeCasts_S30x128_S30x1x128
/-- and with a unit axis in front. -/
abbrev colTable (k : Fin 3) : FVec Ideal S1x30x128 .f32 := shapeCast S1x30x128 (coordTable k x) shapeCasts_S30x128_S1x30x128

theorem rowTable_apply (k : Fin 3) (a : Fin 30) (m : Fin 128) : rowTable x k (ix3 a 0 m) = atomAt x (30 * m.val + a.val) k := by
  refine (shapeCast_apply _ _ _ (ix2 a m) ?_).trans (coordTable_apply x k a m)
  rw [rowMajor_val3 _ 128 128 rfl rfl, rowMajor_val2 _ 128 rfl]
  show a.val * 128 + m.val = a.val * 128 + 0 * 128 + m.val
  omega

theorem colTable_apply (k : Fin 3) (a : Fin 30) (m : Fin 128) : colTable x k (ix3 0 a m) = atomAt x (30 * m.val + a.val) k := by
  refine (shapeCast_apply _ _ _ (ix2 a m) ?_).trans (coordTable_apply x k a m)
  rw [rowMajor_val3 _ 3840 128 rfl rfl, rowMajor_val2 _ 128 rfl]
  show a.val * 128 + m.val = 0 * 3840 + a.val * 128 + m.val
  omega

theorem edge_eq (sh : ℕ) (a : Fin 30) (m : Fin 128) :
    edge (coordTable 0 x) (coordTable 1 x) (coordTable 2 x) sh a m = between x (30 * m.val + a.val) (30 * m.val + (a.val + sh) % 30) := by
  funext c
  unfold edge between
  match c with
  | 0 => exact congrArg₂ (· - ·) (coordTable_apply x 0 (nxt a sh) m) (coordTable_apply x 0 a m)
  | 1 => exact congrArg₂ (· - ·) (coordTable_apply x 1 (nxt a sh) m) (coordTable_apply x 1 a m)
  | 2 => exact congrArg₂ (· - ·) (coordTable_apply x 2 (nxt a sh) m) (coordTable_apply x 2 a m)

/-- An edge inside its molecule. -/
theorem edge_edgeAt (a : Fin 30) (m : Fin 128) (k : ℕ) (hk : k < 8) (e : ℕ) (he : e = 240 * m.val + 8 * a.val + k) :
    edge (coordTable 0 x) (coordTable 1 x) (coordTable 2 x) (k + 1) a m = edgeAt x e := by
  rw [edge_eq]
  have h1 : srcOf e = 30 * m.val + a.val := by unfold srcOf; omega
  have h2 : dstOf e = 30 * m.val + (a.val + (k + 1)) % 30 := by
    unfold dstOf
    have e1 : e / 240 = m.val := by omega
    have e2 : e % 240 / 8 = a.val := by omega
    have e3 : e % 8 = k := by omega
    rw [e1, e2, e3, Nat.add_assoc]
  unfold edgeAt
  rw [h1, h2]

theorem placeOf_small (b : Fin 30) (j : Fin 8) : placeOf b.val j.val < 8 := placeOf_lt b j

/-- The number of the molecule, of the atom inside it and of the offset of an edge. -/
theorem dist_ker (e : Fin 30720) :
    shapeCast S30720 (transpose S128x30x8 [2, 1, 0] (out0_9 (F := Ideal) (coordTable 0 x) (coordTable 1 x) (coordTable 2 x) (rowTable x 0) (rowTable x 1) (rowTable x 2) (colTable x 0) (colTable x 1) (colTable x 2)) transposes_S8x30x128_S128x30x8_2_1_0)
      shapeCasts_S128x30x8_S30720 (ix1 e) = length3 (edgeAt x e.val) := by
  obtain ⟨m, a, k, he⟩ : ∃ (m : Fin 128) (a : Fin 30) (k : Fin 8), e.val = 240 * m.val + 8 * a.val + k.val :=
    ⟨⟨e.val / 240, by omega⟩, ⟨e.val % 240 / 8, by omega⟩, ⟨e.val % 8, by omega⟩, by simp only; omega⟩
  refine (shapeCast_apply _ _ _ (ix3 m a k) ?_).trans ?_
  · rw [rowMajor_val1, rowMajor_val3 _ 240 8 rfl rfl]
    show m.val * 240 + a.val * 8 + k.val = e.val
    omega
  refine (transpose_apply _ _ _ _ (ix3 k a m) fun c => match c with | ⟨0, _⟩ => rfl | ⟨1, _⟩ => rfl | ⟨2, _⟩ => rfl).trans ?_
  rw [out_len_apply]
  exact congrArg length3 (edge_edgeAt x a m k.val k.isLt e.val he)

theorem dir_ker (e : Fin 30720) (c : Fin 3) :
    shapeCast S30720x3 (transpose S128x30x8x3 [3, 2, 1, 0] (out0_10 (F := Ideal) (coordTable 0 x) (coordTable 1 x) (coordTable 2 x) (rowTable x 0) (rowTable x 1) (rowTable x 2) (colTable x 0) (colTable x 1) (colTable x 2)) transposes_S3x8x30x128_S128x30x8x3_3_2_1_0)
      shapeCasts_S128x30x8x3_S30720x3 (ix2 e c) = dirAt x e.val c := by
  obtain ⟨m, a, k, he⟩ : ∃ (m : Fin 128) (a : Fin 30) (k : Fin 8), e.val = 240 * m.val + 8 * a.val + k.val :=
    ⟨⟨e.val / 240, by omega⟩, ⟨e.val % 240 / 8, by omega⟩, ⟨e.val % 8, by omega⟩, by simp only; omega⟩
  refine (shapeCast_apply _ _ _ (ix4 m a k c) ?_).trans ?_
  · rw [rowMajor_val2 _ 3 rfl, rowMajor_val4 _ 720 24 3 rfl rfl rfl]
    show m.val * 720 + a.val * 24 + k.val * 3 + c.val = e.val * 3 + c.val
    omega
  refine (transpose_apply _ _ _ _ (ix4 c k a m) fun c => match c with | ⟨0, _⟩ => rfl | ⟨1, _⟩ => rfl | ⟨2, _⟩ => rfl | ⟨3, _⟩ => rfl).trans ?_
  rw [out_dir_apply]
  exact congrArg (fun d => unit3 d c) (edge_edgeAt x a m k.val k.isLt e.val he)

/-- A pair of edges: atom, first and second place. -/
theorem pair_cast (v : S8x8x30x128.Idx → EReal) (q : Fin 245760) (m : Fin 128) (a : Fin 30) (i j : Fin 8)
    (hq : q.val = 1920 * m.val + 64 * a.val + 8 * i.val + j.val) :
    shapeCast S245760 (shapeCast S3840x64 (transpose S128x30x8x8 [3, 2, 0, 1] v transposes_S8x8x30x128_S128x30x8x8_3_2_0_1)
      shapeCasts_S128x30x8x8_S3840x64) shapeCasts_S3840x64_S245760 (ix1 q) = v (ix4 i j a m) := by
  refine (shapeCast_apply _ _ _ (ix2 (⟨q.val / 64, by omega⟩ : Fin 3840) (⟨q.val % 64, by omega⟩ : Fin 64)) ?_).trans ?_
  · rw [rowMajor_val1, rowMajor_val2 _ 64 rfl]
    show q.val / 64 * 64 + q.val % 64 = q.val
    omega
  refine (shapeCast_apply _ _ _ (ix4 m a i j) ?_).trans ?_
  · rw [rowMajor_val2 _ 64 rfl, rowMajor_val4 _ 1920 64 8 rfl rfl rfl]
    show m.val * 1920 + a.val * 64 + i.val * 8 + j.val = q.val / 64 * 64 + q.val % 64
    omega
  exact transpose_apply _ _ _ _ (ix4 i j a m) fun c => match c with | ⟨0, _⟩ => rfl | ⟨1, _⟩ => rfl | ⟨2, _⟩ => rfl | ⟨3, _⟩ => rfl

theorem pair_split (q : Fin 245760) : ∃ (m : Fin 128) (a : Fin 30) (i j : Fin 8), q.val = 1920 * m.val + 64 * a.val + 8 * i.val + j.val :=
  ⟨⟨q.val / 1920, by omega⟩, ⟨q.val % 1920 / 64, by omega⟩, ⟨q.val % 64 / 8, by omega⟩, ⟨q.val % 8, by omega⟩, by simp only; omega⟩

theorem ss_ker (q : Fin 245760) :
    shapeCast S245760 (shapeCast S3840x64 (transpose S128x30x8x8 [3, 2, 0, 1] (out0_11 (F := Ideal) (coordTable 0 x) (coordTable 1 x) (coordTable 2 x) (rowTable x 0) (rowTable x 1) (rowTable x 2) (colTable x 0) (colTable x 1) (colTable x 2)) transposes_S8x8x30x128_S128x30x8x8_3_2_0_1)
      shapeCasts_S128x30x8x8_S3840x64) shapeCasts_S3840x64_S245760 (ix1 q) = cosAt2 x (q.val / 8) (8 * (q.val / 64) + q.val % 8) := by
  obtain ⟨m, a, i, j, hq⟩ := pair_split q
  rw [pair_cast _ q m a i j hq, out_src_apply]
  unfold cosAt2 dirAt
  exact congrArg₂ (fun d d' => dot3 (unit3 d) (unit3 d')) (edge_edgeAt x a m i.val i.isLt _ (by omega)) (edge_edgeAt x a m j.val j.isLt _ (by omega))

theorem dd_ker (q : Fin 245760) :
    shapeCast S245760 (shapeCast S3840x64 (transpose S128x30x8x8 [3, 2, 0, 1] (out0_12 (F := Ideal) (coordTable 0 x) (coordTable 1 x) (coordTable 2 x) (rowTable x 0) (rowTable x 1) (rowTable x 2) (colTable x 0) (colTable x 1) (colTable x 2)) transposes_S8x8x30x128_S128x30x8x8_3_2_0_1)
      shapeCasts_S128x30x8x8_S3840x64) shapeCasts_S3840x64_S245760 (ix1 q) = cosAt2 x (q.val / 8) (intoOf (dstOf (q.val / 8)) (q.val % 8)) := by
  obtain ⟨m, a, i, j, hq⟩ := pair_split q
  rw [pair_cast _ q m a i j hq, out_dst_apply]
  unfold pairAt cosAt2 dirAt
  have hp := placeOf_small ⟨(a.val + i.val + 1) % 30, Nat.mod_lt _ (by norm_num)⟩ j
  have e1 : q.val / 8 / 240 = m.val := by omega
  have e2 : q.val / 8 % 240 / 8 = a.val := by omega
  have e3 : q.val / 8 % 8 = i.val := by omega
  have e4 : q.val % 8 = j.val := by omega
  refine congrArg₂ (fun d d' => dot3 (unit3 d) (unit3 d')) (edge_edgeAt x a m i.val i.isLt _ (by omega))
    (edge_edgeAt x _ m _ hp _ ?_)
  unfold intoOf dstOf
  rw [e1, e2, e3, e4]
  have f1 : (30 * m.val + (a.val + i.val + 1) % 30) / 30 = m.val := by omega
  have f2 : (30 * m.val + (a.val + i.val + 1) % 30) % 30 = (a.val + i.val + 1) % 30 := by omega
  rw [f1, f2]
  simp only at hp
  show _ = 240 * m.val + 8 * ((a.val + (i.val + 30 - placeOf ((a.val + i.val + 1) % 30) j.val) % 30) % 30) + placeOf ((a.val + i.val + 1) % 30) j.val
  revert hp
  generalize placeOf ((a.val + i.val + 1) % 30) j.val = p
  intro hp
  omega

theorem all_split (i : Fin 115200) : ∃ (m : Fin 128) (p q : Fin 30), i.val = 900 * m.val + 30 * p.val + q.val :=
  ⟨⟨i.val / 900, by omega⟩, ⟨i.val % 900 / 30, by omega⟩, ⟨i.val % 30, by omega⟩, by simp only; omega⟩

/-- The distance between two atoms of a molecule. -/
theorem all_ker (i : Fin 115200) :
    shapeCast S115200 (shapeCast S3840x30 (transpose S128x30x30 [2, 0, 1] (out0_13 (F := Ideal) (coordTable 0 x) (coordTable 1 x) (coordTable 2 x) (rowTable x 0) (rowTable x 1) (rowTable x 2) (colTable x 0) (colTable x 1) (colTable x 2)) transposes_S30x30x128_S128x30x30_2_0_1)
      shapeCasts_S128x30x30_S3840x30) shapeCasts_S3840x30_S115200 (ix1 i)
      = length3 (between x (30 * (i.val / 900) + i.val % 30) (30 * (i.val / 900) + i.val % 900 / 30)) := by
  obtain ⟨m, p, q, hi⟩ := all_split i
  refine (shapeCast_apply _ _ _ (ix2 (⟨i.val / 30, by omega⟩ : Fin 3840) (⟨i.val % 30, by omega⟩ : Fin 30)) ?_).trans ?_
  · rw [rowMajor_val1, rowMajor_val2 _ 30 rfl]
    show i.val / 30 * 30 + i.val % 30 = i.val
    omega
  refine (shapeCast_apply _ _ _ (ix3 m p q) ?_).trans ?_
  · rw [rowMajor_val2 _ 30 rfl, rowMajor_val3 _ 900 30 rfl rfl]
    show m.val * 900 + p.val * 30 + q.val = i.val / 30 * 30 + i.val % 30
    omega
  refine (transpose_apply _ _ _ _ (ix3 p q m) fun c => match c with | ⟨0, _⟩ => rfl | ⟨1, _⟩ => rfl | ⟨2, _⟩ => rfl).trans ?_
  rw [out_all_apply, rowTable_apply, rowTable_apply, rowTable_apply, colTable_apply, colTable_apply, colTable_apply]
  have e1 : i.val / 900 = m.val := by omega
  have e2 : i.val % 900 / 30 = p.val := by omega
  have e3 : i.val % 30 = q.val := by omega
  rw [e1, e2, e3]
  refine congrArg length3 (funext fun c => ?_)
  fin_cases c <;> rfl

end Cert.Mol

end
-- ==== Proof.Stack.lean ====
/- The table of edges: the five stretches of edge numbers both programs put side by side, and the joining of rows that makes them. -/
module

public import proofs.«01_k».proof.Proof.Spec
public import Idealize.ShloMosaic.Lib.Pipeline.Value

@[expose] public section

noncomputable section

namespace Cert.Mol

open Idealize.ShloMosaic

/-- A row of words of length `N` joined to another makes a table of two rows. -/
theorem pair_words {α : Type} (N : ℕ) (a b : (⟨1, ![N]⟩ : Shape).Idx → α) (hb : (⟨1, ![N]⟩ : Shape).BroadcastsInDim ⟨2, ![1, N]⟩ ![1])
    (h : Shape.Concatenates [⟨2, ![1, N]⟩, ⟨2, ![1, N]⟩] ⟨2, ![2, N]⟩ 0) (r : Fin 2) (i : Fin N) (hN : N ≠ 1) :
    concatenate ⟨2, ![2, N]⟩ 0 [⟨⟨2, ![1, N]⟩, broadcastInDim ⟨2, ![1, N]⟩ ![1] hb a⟩, ⟨⟨2, ![1, N]⟩, broadcastInDim ⟨2, ![1, N]⟩ ![1] hb b⟩] h (ix2 r i)
      = if r = 0 then a (ix1 i) else b (ix1 i) := by
  have bc : ∀ v : (⟨1, ![N]⟩ : Shape).Idx → α, broadcastInDim ⟨2, ![1, N]⟩ ![1] hb v (ix2 0 i) = v (ix1 i) := fun v =>
    broadcastInDim_apply _ _ _ _ (ix1 i) fun c => match c with | ⟨0, _⟩ => (if_neg hN).symm
  match r with
  | 0 =>
    refine (concatenate_pair_apply_left (t := ⟨2, ![2, N]⟩) (s₁ := ⟨2, ![1, N]⟩) (s₂ := ⟨2, ![1, N]⟩) 0 _ _ h (ix2 0 i) rfl (ix2 0 i) fun c => match c with | ⟨0, _⟩ => rfl | ⟨1, _⟩ => rfl).trans ?_
    rw [bc]; rfl
  | 1 =>
    refine (concatenate_pair_apply_right (t := ⟨2, ![2, N]⟩) (s₁ := ⟨2, ![1, N]⟩) (s₂ := ⟨2, ![1, N]⟩) 0 _ _ h (ix2 1 i) rfl rfl (ix2 0 i) (fun c hc => match c with | ⟨0, _⟩ => absurd rfl hc | ⟨1, _⟩ => rfl) rfl).trans ?_
    rw [bc]; rfl

/-- The number at a place of the table of edges: pairs of atoms, atoms to edges, edges to atoms, pairs of edges by the atom
between them, pairs of edges by the atom they start from. -/
def edgeNo (r : Fin 2) (i : ℕ) : ℕ :=
  if i < 115200 then if r = 0 then 30 * (i / 900) + i % 30 else 30 * (i / 900) + i % 900 / 30
  else if i < 145920 then if r = 0 then srcOf (i - 115200) else 3840 + (i - 115200)
  else if i < 176640 then if r = 0 then 3840 + (i - 145920) else dstOf (i - 145920)
  else if i < 422400 then
    if r = 0 then 3840 + (i - 176640) / 8 else 3840 + intoOf (dstOf ((i - 176640) / 8)) ((i - 176640) % 8)
  else if r = 0 then 3840 + (i - 422400) / 8 else 3840 + (8 * ((i - 422400) / 64) + (i - 422400) % 8)

section
variable {n₁ n₂ n₃ n₄ n₅ T : ℕ} (A : (⟨2, ![2, n₁]⟩ : Shape).Idx → BitVec 32) (B : (⟨2, ![2, n₂]⟩ : Shape).Idx → BitVec 32)
  (C : (⟨2, ![2, n₃]⟩ : Shape).Idx → BitVec 32) (D : (⟨2, ![2, n₄]⟩ : Shape).Idx → BitVec 32) (E : (⟨2, ![2, n₅]⟩ : Shape).Idx → BitVec 32)
  (h : Shape.Concatenates [⟨2, ![2, n₁]⟩, ⟨2, ![2, n₂]⟩, ⟨2, ![2, n₃]⟩, ⟨2, ![2, n₄]⟩, ⟨2, ![2, n₅]⟩] ⟨2, ![2, T]⟩ 1)
  (r : Fin 2) (i : Fin T)

theorem row_off {N M : ℕ} (r : Fin 2) (k : Fin N) (i : Fin M) (b : Fin 2) (hb : b.cast rfl ≠ (1 : Fin 2)) :
    ((ix2 r k : (⟨2, ![2, N]⟩ : Shape).Idx) b).val = ((ix2 r i : (⟨2, ![2, M]⟩ : Shape).Idx) (b.cast rfl)).val :=
  match b with | ⟨0, _⟩ => rfl | ⟨1, _⟩ => absurd rfl hb

theorem stack_0 (j : Fin n₁) (hj : 0 + j.val = i.val) :
    concatenate ⟨2, ![2, T]⟩ 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) = A (ix2 r j) :=
  concatenate_apply_piece (t := ⟨2, ![2, T]⟩) 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) 0 (by simp) _ A rfl rfl (0) rfl (ix2 r j) (row_off r j i) hj

theorem stack_1 (j : Fin n₂) (hj : n₁ + 0 + j.val = i.val) :
    concatenate ⟨2, ![2, T]⟩ 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) = B (ix2 r j) :=
  concatenate_apply_piece (t := ⟨2, ![2, T]⟩) 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) 1 (by simp) _ B rfl rfl (n₁ + 0) rfl (ix2 r j) (row_off r j i) hj

theorem stack_2 (j : Fin n₃) (hj : n₁ + (n₂ + 0) + j.val = i.val) :
    concatenate ⟨2, ![2, T]⟩ 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) = C (ix2 r j) :=
  concatenate_apply_piece (t := ⟨2, ![2, T]⟩) 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) 2 (by simp) _ C rfl rfl (n₁ + (n₂ + 0)) rfl (ix2 r j) (row_off r j i) hj

theorem stack_3 (j : Fin n₄) (hj : n₁ + (n₂ + (n₃ + 0)) + j.val = i.val) :
    concatenate ⟨2, ![2, T]⟩ 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) = D (ix2 r j) :=
  concatenate_apply_piece (t := ⟨2, ![2, T]⟩) 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) 3 (by simp) _ D rfl rfl (n₁ + (n₂ + (n₃ + 0))) rfl (ix2 r j) (row_off r j i) hj

theorem stack_4 (j : Fin n₅) (hj : n₁ + (n₂ + (n₃ + (n₄ + 0))) + j.val = i.val) :
    concatenate ⟨2, ![2, T]⟩ 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) = E (ix2 r j) :=
  concatenate_apply_piece (t := ⟨2, ![2, T]⟩) 1 [⟨⟨2, ![2, n₁]⟩, A⟩, ⟨⟨2, ![2, n₂]⟩, B⟩, ⟨⟨2, ![2, n₃]⟩, C⟩, ⟨⟨2, ![2, n₄]⟩, D⟩, ⟨⟨2, ![2, n₅]⟩, E⟩] h (ix2 r i) 4 (by simp) _ E rfl rfl (n₁ + (n₂ + (n₃ + (n₄ + 0)))) rfl (ix2 r j) (row_off r j i) hj

end

/-- The five stretches joined hold the table of edges, if each stretch holds its part. -/
theorem stack_words (A : (⟨2, ![2, 115200]⟩ : Shape).Idx → BitVec 32) (B C : (⟨2, ![2, 30720]⟩ : Shape).Idx → BitVec 32)
    (D E : (⟨2, ![2, 245760]⟩ : Shape).Idx → BitVec 32)
    (h : Shape.Concatenates [⟨2, ![2, 115200]⟩, ⟨2, ![2, 30720]⟩, ⟨2, ![2, 30720]⟩, ⟨2, ![2, 245760]⟩, ⟨2, ![2, 245760]⟩] ⟨2, ![2, 668160]⟩ 1)
    (hA : ∀ r i, A (ix2 r i) = BitVec.ofNat 32 (if r = 0 then 30 * (i.val / 900) + i.val % 30 else 30 * (i.val / 900) + i.val % 900 / 30))
    (hB : ∀ r i, B (ix2 r i) = BitVec.ofNat 32 (if r = 0 then srcOf i.val else 3840 + i.val))
    (hC : ∀ r i, C (ix2 r i) = BitVec.ofNat 32 (if r = 0 then 3840 + i.val else dstOf i.val))
    (hD : ∀ r i, D (ix2 r i) = BitVec.ofNat 32 (if r = 0 then 3840 + i.val / 8 else 3840 + intoOf (dstOf (i.val / 8)) (i.val % 8)))
    (hE : ∀ r i, E (ix2 r i) = BitVec.ofNat 32 (if r = 0 then 3840 + i.val / 8 else 3840 + (8 * (i.val / 64) + i.val % 8)))
    (r : Fin 2) (i : Fin 668160) :
    concatenate ⟨2, ![2, 668160]⟩ 1 [⟨_, A⟩, ⟨_, B⟩, ⟨_, C⟩, ⟨_, D⟩, ⟨_, E⟩] h (ix2 r i) = BitVec.ofNat 32 (edgeNo r i.val) := by
  unfold edgeNo
  by_cases h1 : i.val < 115200
  · rw [if_pos h1]
    exact (stack_0 A B C D E h r i ⟨i.val, h1⟩ (Nat.zero_add _)).trans (hA r _)
  rw [if_neg h1]
  by_cases h2 : i.val < 145920
  · rw [if_pos h2]
    exact (stack_1 A B C D E h r i ⟨i.val - 115200, by omega⟩ (by simp only; omega)).trans (hB r _)
  rw [if_neg h2]
  by_cases h3 : i.val < 176640
  · rw [if_pos h3]
    exact (stack_2 A B C D E h r i ⟨i.val - 145920, by omega⟩ (by simp only; omega)).trans (hC r _)
  rw [if_neg h3]
  by_cases h4 : i.val < 422400
  · rw [if_pos h4]
    exact (stack_3 A B C D E h r i ⟨i.val - 176640, by omega⟩ (by simp only; omega)).trans (hD r _)
  rw [if_neg h4]
  exact (stack_4 A B C D E h r i ⟨i.val - 422400, by omega⟩ (by simp only; omega)).trans (hE r _)

end Cert.Mol

end
-- ==== Proof.KerEdges.lean ====
/- The kernel's table of edges. -/
module

public import proofs.«01_k».proof.Proof.KerReads
public import proofs.«01_k».proof.Proof.KerGeo
public import proofs.«01_k».proof.Proof.Stack

@[expose] public section

set_option maxRecDepth 16384

noncomputable section

namespace Cert.Mol

open Cert.KernelIdeal Cert.KernelIdeal.Gen Idealize.ShloMosaic Idealize.ShloMosaic.TcCoe

theorem word_rows (w : IVec S128x240 32) (f : ℕ → ℕ) (hw : ∀ m el, w (ix2 m el) = BitVec.ofNat 32 (f (240 * m.val + el.val))) (e : Fin 30720) :
    shapeCast S30720 w shapeCasts_S128x240_S30720 (ix1 e) = BitVec.ofNat 32 (f e.val) := by
  refine (shapeCast_apply _ _ _ (ix2 (⟨e.val / 240, by omega⟩ : Fin 128) (⟨e.val % 240, by omega⟩ : Fin 240)) ?_).trans ((hw _ _).trans ?_)
  · rw [rowMajor_val1, rowMajor_val2 _ 240 rfl]
    show e.val / 240 * 240 + e.val % 240 = e.val
    omega
  · exact congrArg (fun n => BitVec.ofNat 32 (f n)) (show 240 * (e.val / 240) + e.val % 240 = e.val by omega)

theorem word_pairs (w : IVec S128x30x30 32) (i : Fin 115200) (m : Fin 128) (p q : Fin 30) (hi : i.val = 900 * m.val + 30 * p.val + q.val) :
    shapeCast S115200 w shapeCasts_S128x30x30_S115200 (ix1 i) = w (ix3 m p q) := by
  refine shapeCast_apply _ _ _ (ix3 m p q) ?_
  rw [rowMajor_val1, rowMajor_val3 _ 900 30 rfl rfl]
  show m.val * 900 + p.val * 30 + q.val = i.val
  omega

theorem edges_ker (w5 w6 : IVec S128x30x30 32) (w7 w8 w9 : IVec S128x240 32) (w10 : IVec S128x30x64 32) (w11 : IVec S2x128x30x64 32)
    (h5 : ∀ m p q, w5 (ix3 m p q) = BitVec.ofNat 32 (30 * m.val + q.val))
    (h6 : ∀ m p q, w6 (ix3 m p q) = BitVec.ofNat 32 (30 * m.val + p.val))
    (h7 : ∀ m el, w7 (ix2 m el) = BitVec.ofNat 32 (30 * m.val + el.val / 8))
    (h8 : ∀ m el, w8 (ix2 m el) = BitVec.ofNat 32 (30 * m.val + (el.val / 8 + el.val % 8 + 1) % 30))
    (h9 : ∀ m el, w9 (ix2 m el) = BitVec.ofNat 32 (3840 + (240 * m.val + el.val)))
    (h10 : ∀ m a l, w10 (ix3 m a l) = BitVec.ofNat 32 (3840 + intoOf (30 * m.val + (a.val + l.val / 8 + 1) % 30) (l.val % 8)))
    (h11 : ∀ r m a l, w11 (ix4 r m a l) = snsVal r m a l) (r : Fin 2) (i : Fin 668160) :
    concatenate S2x668160 1 [⟨S2x115200, concatenate S2x115200 0 [⟨S1x115200, broadcastInDim S1x115200 ![1] bcast_S115200_S1x115200_1 (shapeCast S115200 w5 shapeCasts_S128x30x30_S115200)⟩, ⟨S1x115200, broadcastInDim S1x115200 ![1] bcast_S115200_S1x115200_1 (shapeCast S115200 w6 shapeCasts_S128x30x30_S115200)⟩] concatenates_S1x115200_S1x115200_S2x115200_d0⟩,
      ⟨S2x30720, concatenate S2x30720 0 [⟨S1x30720, broadcastInDim S1x30720 ![1] bcast_S30720_S1x30720_1 (shapeCast S30720 w7 shapeCasts_S128x240_S30720)⟩, ⟨S1x30720, broadcastInDim S1x30720 ![1] bcast_S30720_S1x30720_1 (shapeCast S30720 w9 shapeCasts_S128x240_S30720)⟩] concatenates_S1x30720_S1x30720_S2x30720_d0⟩,
      ⟨S2x30720, concatenate S2x30720 0 [⟨S1x30720, broadcastInDim S1x30720 ![1] bcast_S30720_S1x30720_1 (shapeCast S30720 w9 shapeCasts_S128x240_S30720)⟩, ⟨S1x30720, broadcastInDim S1x30720 ![1] bcast_S30720_S1x30720_1 (shapeCast S30720 w8 shapeCasts_S128x240_S30720)⟩] concatenates_S1x30720_S1x30720_S2x30720_d0⟩,
      ⟨S2x245760, concatenate S2x245760 0 [⟨S1x245760, broadcastInDim S1x245760 ![1] bcast_S245760_S1x245760_1 (shapeCast S245760 (broadcastInDim S30720x8 ![0] bcast_S30720_S30720x8_0 (shapeCast S30720 w9 shapeCasts_S128x240_S30720)) shapeCasts_S30720x8_S245760)⟩, ⟨S1x245760, broadcastInDim S1x245760 ![1] bcast_S245760_S1x245760_1 (shapeCast S245760 w10 shapeCasts_S128x30x64_S245760)⟩] concatenates_S1x245760_S1x245760_S2x245760_d0⟩,
      ⟨S2x245760, shapeCast S2x245760 w11 shapeCasts_S2x128x30x64_S2x245760⟩] concatenates_S2x115200_S2x30720_S2x30720_S2x245760_S2x245760_S2x668160_d1 (ix2 r i)
      = BitVec.ofNat 32 (edgeNo r i.val) := by
  have e7 : ∀ e : Fin 30720, shapeCast S30720 w7 shapeCasts_S128x240_S30720 (ix1 e) = BitVec.ofNat 32 (srcOf e.val) :=
    word_rows w7 srcOf fun m el => (h7 m el).trans (congrArg _ (by unfold srcOf; omega))
  have e8 : ∀ e : Fin 30720, shapeCast S30720 w8 shapeCasts_S128x240_S30720 (ix1 e) = BitVec.ofNat 32 (dstOf e.val) :=
    word_rows w8 dstOf fun m el => (h8 m el).trans (congrArg _ (by
      unfold dstOf
      have g1 : (240 * m.val + el.val) / 240 = m.val := by omega
      have g2 : (240 * m.val + el.val) % 240 = el.val := by omega
      have g3 : (240 * m.val + el.val) % 8 = el.val % 8 := by omega
      rw [g1, g2, g3]))
  have e9 : ∀ e : Fin 30720, shapeCast S30720 w9 shapeCasts_S128x240_S30720 (ix1 e) = BitVec.ofNat 32 (3840 + e.val) :=
    word_rows w9 (fun n => 3840 + n) fun m el => h9 m el
  refine stack_words _ _ _ _ _ _ ?_ ?_ ?_ ?_ ?_ r i
  · intro r i
    obtain ⟨m, p, q, hi⟩ := all_split i
    refine (pair_words 115200 _ _ _ _ r i (by norm_num)).trans ?_
    rw [word_pairs w5 i m p q hi, word_pairs w6 i m p q hi, h5, h6]
    have g1 : i.val / 900 = m.val := by omega
    have g2 : i.val % 900 / 30 = p.val := by omega
    have g3 : i.val % 30 = q.val := by omega
    rw [g1, g2, g3]
    split <;> rfl
  · intro r i
    refine (pair_words 30720 _ _ _ _ r i (by norm_num)).trans ?_
    rw [e7, e9]
    split <;> rfl
  · intro r i
    refine (pair_words 30720 _ _ _ _ r i (by norm_num)).trans ?_
    rw [e9, e8]
    split <;> rfl
  · intro r i
    refine (pair_words 245760 _ _ _ _ r i (by norm_num)).trans ?_
    have f1 : shapeCast S245760 (broadcastInDim S30720x8 ![0] bcast_S30720_S30720x8_0 (shapeCast S30720 w9 shapeCasts_S128x240_S30720)) shapeCasts_S30720x8_S245760 (ix1 i)
        = BitVec.ofNat 32 (3840 + i.val / 8) := by
      refine (shapeCast_apply _ _ _ (ix2 (⟨i.val / 8, by omega⟩ : Fin 30720) (⟨i.val % 8, by omega⟩ : Fin 8)) ?_).trans ?_
      · rw [rowMajor_val1, rowMajor_val2 _ 8 rfl]
        show i.val / 8 * 8 + i.val % 8 = i.val
        omega
      exact (broadcastInDim_apply _ _ _ _ (ix1 (⟨i.val / 8, by omega⟩ : Fin 30720)) fun c => match c with | ⟨0, _⟩ => rfl).trans (e9 _)
    have f2 : shapeCast S245760 w10 shapeCasts_S128x30x64_S245760 (ix1 i) = BitVec.ofNat 32 (3840 + intoOf (dstOf (i.val / 8)) (i.val % 8)) := by
      refine (shapeCast_apply _ _ _ (ix3 (⟨i.val / 1920, by omega⟩ : Fin 128) (⟨i.val % 1920 / 64, by omega⟩ : Fin 30) (⟨i.val % 64, by omega⟩ : Fin 64)) ?_).trans ((h10 _ _ _).trans ?_)
      · rw [rowMajor_val1, rowMajor_val3 _ 1920 64 rfl rfl]
        show i.val / 1920 * 1920 + i.val % 1920 / 64 * 64 + i.val % 64 = i.val
        omega
      · have g0 : i.val % 64 % 8 = i.val % 8 := by omega
        have g1 : 30 * (i.val / 1920) + (i.val % 1920 / 64 + i.val % 64 / 8 + 1) % 30 = dstOf (i.val / 8) := by
          unfold dstOf
          have k1 : i.val / 8 / 240 = i.val / 1920 := by omega
          have k2 : i.val / 8 % 240 / 8 = i.val % 1920 / 64 := by omega
          have k3 : i.val / 8 % 8 = i.val % 64 / 8 := by omega
          rw [k1, k2, k3]
        simp only
        rw [g0, g1]
    rw [f1, f2]
    split <;> rfl
  · intro r i
    refine (shapeCast_apply _ _ _ (ix4 r (⟨i.val / 1920, by omega⟩ : Fin 128) (⟨i.val % 1920 / 64, by omega⟩ : Fin 30) (⟨i.val % 64, by omega⟩ : Fin 64)) ?_).trans ((h11 _ _ _ _).trans ?_)
    · rw [rowMajor_val2 _ 245760 rfl, rowMajor_val4 _ 245760 1920 64 rfl rfl rfl]
      show r.val * 245760 + i.val / 1920 * 1920 + i.val % 1920 / 64 * 64 + i.val % 64 = r.val * 245760 + i.val
      omega
    · unfold snsVal
      simp only
      have k1 : 240 * (i.val / 1920) + 8 * (i.val % 1920 / 64) + i.val % 64 / 8 = i.val / 8 := by omega
      have k2 : 240 * (i.val / 1920) + 8 * (i.val % 1920 / 64) + i.val % 64 % 8 = 8 * (i.val / 64) + i.val % 8 := by omega
      split
      · rw [k1]
      · rw [k2]

end Cert.Mol

end
-- ==== Proof.KerVals.lean ====
/- The kernel's results other than the features, read at an index: lengths, directions, cosines, distances and the table of edges. -/
module

public import proofs.«01_k».proof.Proof.KerEdges

@[expose] public section

set_option maxRecDepth 16384

noncomputable section

namespace Cert.Mol

open Cert.KernelIdeal Cert.KernelIdeal.Gen Idealize.ShloMosaic Idealize.ShloMosaic.TcCoe

variable (m : (ℓ : Loc nD τ sig) → Buf (Elt Ideal) ℓ) (ρ : Dev nD → PrngReg) (c : Dev nD)

/-- The positions argument. -/
abbrev pos : FVec Ideal S3840x3 .f32 := m ((c : Thread nD τ).loc main_arg0)

theorem v1_9 : V1 m ρ c main_v9 = coordTable 0 (pos m c) := pre_v9 (W0 m ρ c)
theorem v1_12 : V1 m ρ c main_v12 = rowTable (pos m c) 0 := pre_v12 (W0 m ρ c)
theorem v1_15 : V1 m ρ c main_v15 = colTable (pos m c) 0 := pre_v15 (W0 m ρ c)
theorem v1_10 : V1 m ρ c main_v10 = coordTable 1 (pos m c) := pre_v10 (W0 m ρ c)
theorem v1_13 : V1 m ρ c main_v13 = rowTable (pos m c) 1 := pre_v13 (W0 m ρ c)
theorem v1_16 : V1 m ρ c main_v16 = colTable (pos m c) 1 := pre_v16 (W0 m ρ c)
theorem v1_11 : V1 m ρ c main_v11 = coordTable 2 (pos m c) := pre_v11 (W0 m ρ c)
theorem v1_14 : V1 m ρ c main_v14 = rowTable (pos m c) 2 := pre_v14 (W0 m ρ c)
theorem v1_17 : V1 m ρ c main_v17 = colTable (pos m c) 2 := pre_v17 (W0 m ρ c)

theorem w2_9 : W2 m ρ c (Proc.devRef .tc main_v18_0) = out0_9 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 9).trans ((arr9 (V1 m ρ) c).trans ?_)
  rw [v1_9, v1_10, v1_11, v1_12, v1_13, v1_14, v1_15, v1_16, v1_17]

theorem w2_10 : W2 m ρ c (Proc.devRef .tc main_v18_1) = out0_10 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 10).trans ((arr10 (V1 m ρ) c).trans ?_)
  rw [v1_9, v1_10, v1_11, v1_12, v1_13, v1_14, v1_15, v1_16, v1_17]

theorem w2_11 : W2 m ρ c (Proc.devRef .tc main_v18_2) = out0_11 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 11).trans ((arr11 (V1 m ρ) c).trans ?_)
  rw [v1_9, v1_10, v1_11, v1_12, v1_13, v1_14, v1_15, v1_16, v1_17]

theorem w2_12 : W2 m ρ c (Proc.devRef .tc main_v18_3) = out0_12 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 12).trans ((arr12 (V1 m ρ) c).trans ?_)
  rw [v1_9, v1_10, v1_11, v1_12, v1_13, v1_14, v1_15, v1_16, v1_17]

theorem w2_13 : W2 m ρ c (Proc.devRef .tc main_v18_4) = out0_13 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 13).trans ((arr13 (V1 m ρ) c).trans ?_)
  rw [v1_9, v1_10, v1_11, v1_12, v1_13, v1_14, v1_15, v1_16, v1_17]

theorem w2_14 : W2 m ρ c (Proc.devRef .tc main_v18_5) = out0_14 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 14).trans ((arr14 (V1 m ρ) c).trans ?_)
  rw [v1_9, v1_10, v1_11, v1_12, v1_13, v1_14, v1_15, v1_16, v1_17]

theorem w2_15 : W2 m ρ c (Proc.devRef .tc main_v18_6) = out0_15 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 15).trans ((arr15 (V1 m ρ) c).trans ?_)
  rw [v1_9, v1_10, v1_11, v1_12, v1_13, v1_14, v1_15, v1_16, v1_17]

theorem w2_16 : W2 m ρ c (Proc.devRef .tc main_v18_7) = out0_16 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 16).trans ((arr16 (V1 m ρ) c).trans ?_)
  rw [v1_9, v1_10, v1_11, v1_12, v1_13, v1_14, v1_15, v1_16, v1_17]

theorem w2_17 : W2 m ρ c (Proc.devRef .tc main_v18_8) = out0_17 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 17).trans ((arr17 (V1 m ρ) c).trans ?_)
  rw [v1_9, v1_10, v1_11, v1_12, v1_13, v1_14, v1_15, v1_16, v1_17]

theorem w2_18 : W2 m ρ c (Proc.devRef .tc main_v18_9) = out0_18 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 18).trans ((arr18 (V1 m ρ) c).trans ?_)
  rw [v1_9, v1_10, v1_11, v1_12, v1_13, v1_14, v1_15, v1_16, v1_17]

theorem w2_19 : W2 m ρ c (Proc.devRef .tc main_v18_10) = out0_19 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 19).trans ((arr19 (V1 m ρ) c).trans ?_)
  rw [v1_9, v1_10, v1_11, v1_12, v1_13, v1_14, v1_15, v1_16, v1_17]

theorem w2_20 : W2 m ρ c (Proc.devRef .tc main_v18_11) = out0_20 (F := Ideal) (coordTable 0 (pos m c)) (coordTable 1 (pos m c)) (coordTable 2 (pos m c)) (rowTable (pos m c) 0) (rowTable (pos m c) 1) (rowTable (pos m c) 2) (colTable (pos m c) 0) (colTable (pos m c) 1) (colTable (pos m c) 2) := by
  refine (W2_arr m ρ c 20).trans ((arr20 (V1 m ρ) c).trans ?_)
  rw [v1_9, v1_10, v1_11, v1_12, v1_13, v1_14, v1_15, v1_16, v1_17]

theorem w3_v20 (e : Fin 30720) : (W3 m ρ c (Proc.devRef .tc main_v20) : _ → EReal) (ix1 e) = length3 (edgeAt (pos m c) e.val) := by
  refine (congrFun (post_v20 (W2 m ρ c)) _).trans ?_
  rw [w2_9]
  exact dist_ker (pos m c) e

theorem w4_v20 (e : Fin 30720) : (W4 m ρ c (Proc.devRef .tc main_v20) : _ → EReal) (ix1 e) = length3 (edgeAt (pos m c) e.val) :=
  (congrFun (W4_of_ne m ρ c main_v20 (by decide)) _).trans (w3_v20 m ρ c e)

theorem w3_v22 (e : Fin 30720) (k : Fin 3) : (W3 m ρ c (Proc.devRef .tc main_v22) : _ → EReal) (ix2 e k) = dirAt (pos m c) e.val k := by
  refine (congrFun (post_v22 (W2 m ρ c)) _).trans ?_
  rw [w2_10]
  exact dir_ker (pos m c) e k

theorem w4_v22 (e : Fin 30720) (k : Fin 3) : (W4 m ρ c (Proc.devRef .tc main_v22) : _ → EReal) (ix2 e k) = dirAt (pos m c) e.val k :=
  (congrFun (W4_of_ne m ρ c main_v22 (by decide)) _).trans (w3_v22 m ρ c e k)

theorem w3_v25 (q : Fin 245760) : (W3 m ρ c (Proc.devRef .tc main_v25) : _ → EReal) (ix1 q) = cosAt2 (pos m c) (q.val / 8) (8 * (q.val / 64) + q.val % 8) := by
  refine (congrFun (post_v25 (W2 m ρ c)) _).trans ?_
  rw [w2_11]
  exact ss_ker (pos m c) q

theorem w4_v25 (q : Fin 245760) : (W4 m ρ c (Proc.devRef .tc main_v25) : _ → EReal) (ix1 q) = cosAt2 (pos m c) (q.val / 8) (8 * (q.val / 64) + q.val % 8) :=
  (congrFun (W4_of_ne m ρ c main_v25 (by decide)) _).trans (w3_v25 m ρ c q)

theorem w3_v28 (q : Fin 245760) : (W3 m ρ c (Proc.devRef .tc main_v28) : _ → EReal) (ix1 q) = cosAt2 (pos m c) (q.val / 8) (intoOf (dstOf (q.val / 8)) (q.val % 8)) := by
  refine (congrFun (post_v28 (W2 m ρ c)) _).trans ?_
  rw [w2_12]
  exact dd_ker (pos m c) q

theorem w4_v28 (q : Fin 245760) : (W4 m ρ c (Proc.devRef .tc main_v28) : _ → EReal) (ix1 q) = cosAt2 (pos m c) (q.val / 8) (intoOf (dstOf (q.val / 8)) (q.val % 8)) :=
  (congrFun (W4_of_ne m ρ c main_v28 (by decide)) _).trans (w3_v28 m ρ c q)

theorem w3_v31 (i : Fin 115200) : (W3 m ρ c (Proc.devRef .tc main_v31) : _ → EReal) (ix1 i) = length3 (between (pos m c) (30 * (i.val / 900) + i.val % 30) (30 * (i.val / 900) + i.val % 900 / 30)) := by
  refine (congrFun (post_v31 (W2 m ρ c)) _).trans ?_
  rw [w2_13]
  exact all_ker (pos m c) i

theorem w4_v31 (i : Fin 115200) : (W4 m ρ c (Proc.devRef .tc main_v31) : _ → EReal) (ix1 i) = length3 (between (pos m c) (30 * (i.val / 900) + i.val % 30) (30 * (i.val / 900) + i.val % 900 / 30)) :=
  (congrFun (W4_of_ne m ρ c main_v31 (by decide)) _).trans (w3_v31 m ρ c i)

theorem w4_v55 (r : Fin 2) (i : Fin 668160) : (W4 m ρ c (Proc.devRef .tc main_v55) : _ → BitVec 32) (ix2 r i) = BitVec.ofNat 32 (edgeNo r i.val) := by
  refine (congrFun (W4_of_ne m ρ c main_v55 (by decide)) _).trans ((congrFun (post_v55 (W2 m ρ c)) _).trans ?_)
  exact edges_ker _ _ _ _ _ _ _
    (fun a b d => (congrFun (w2_14 m ρ c) _).trans (out_all0_apply _ _ _ _ _ _ _ _ _ a b d))
    (fun a b d => (congrFun (w2_15 m ρ c) _).trans (out_all1_apply _ _ _ _ _ _ _ _ _ a b d))
    (fun a b => (congrFun (w2_16 m ρ c) _).trans (out_srcw_apply _ _ _ _ _ _ _ _ _ a b))
    (fun a b => (congrFun (w2_17 m ρ c) _).trans (out_dstw_apply _ _ _ _ _ _ _ _ _ a b))
    (fun a b => (congrFun (w2_18 m ρ c) _).trans (out_earr_apply _ _ _ _ _ _ _ _ _ a b))
    (fun a b d => (congrFun (w2_19 m ρ c) _).trans (out_dnd_apply _ _ _ _ _ _ _ _ _ a b d))
    (fun a b d e => (congrFun (w2_20 m ρ c) _).trans (out_sns_apply _ _ _ _ _ _ _ _ _ a b d e)) r i

end Cert.Mol

end
-- ==== Proof.TokOut.lean ====
/- What each grid point of the token kernel stores: the run's one piece, opened to the printed payload of the point's blocks. -/
module

public import proofs.«01_k».proof.Proof.KerVals

@[expose] public section

noncomputable section

namespace Cert.Mol

open Cert.KernelIdeal Cert.KernelIdeal.Gen Idealize.ShloMosaic Idealize.ShloMosaic.TcCoe

variable {F : FTy → Type} [FloatOps F] [Named F]

/-- One row of the two type rows, as the kernel loads it. -/
def typeRow (x3 : Vec F S2x512 .f32) (r : Fin 2) : Vec F S1x512 .f32 := fun j => x3 (ix2 r ⟨(j 1).val, (j 1).isLt⟩)

theorem ld_row0 (x3 : Vec F S2x512 .f32) : View.ld x3 (Rect.unit (s := S2x512) ![0, 0] S1x512.size inb_S2x512_S1x512_0_0) = typeRow x3 0 := by
  funext j
  refine congrArg x3 (funext fun a => Fin.ext ?_)
  match a with
  | ⟨0, _⟩ => have h : (j 0).val < 1 := (j 0).isLt; show 0 + 1 * (j 0).val = 0; omega
  | ⟨1, _⟩ => show 0 + 1 * (j 1).val = (j 1).val; omega

theorem ld_row1 (x3 : Vec F S2x512 .f32) : View.ld x3 (Rect.unit (s := S2x512) ![1, 0] S1x512.size inb_S2x512_S1x512_1_0) = typeRow x3 1 := by
  funext j
  refine congrArg x3 (funext fun a => Fin.ext ?_)
  match a with
  | ⟨0, _⟩ => have h : (j 0).val < 1 := (j 0).isLt; show 1 + 1 * (j 0).val = 1; omega
  | ⟨1, _⟩ => show 0 + 1 * (j 1).val = (j 1).val; omega

theorem off00 : (![0, 0] : Fin 2 → Nat) = fun _ => 0 := by funext a; match a with | ⟨0, _⟩ => rfl | ⟨1, _⟩ => rfl

/-- The first grid point stores the node payload. -/
theorem out_first (c : Dev nD) (i : grid1.Coords) (a0 : Memref sig .tc .vmem S3840x1 .f32) (h0 : a0.IsWhole) (a1 : Memref sig .tc .vmem S3840x1 .i32) (h1 : a1.IsWhole) (a2 : Memref sig .tc .vmem S128x512 .f32) (h2 : a2.IsWhole) (a3 : Memref sig .tc .vmem S2x512 .f32) (h3 : a3.IsWhole) (a4 : Memref sig .tc .vmem S50x1024 .f32) (h4 : a4.IsWhole) (a5 : Memref sig .tc .vmem S1x1024 .f32) (h5 : a5.IsWhole) (a6 : Memref sig .tc .vmem S1024x512 .f32) (h6 : a6.IsWhole) (a7 : Memref sig .tc .vmem S1x512 .f32) (h7 : a7.IsWhole) (a8 : Memref sig .tc .vmem S50x512 .f32) (h8 : a8.IsWhole) (a9 : Memref sig .tc .vmem S3840x512 .f32) (h9 : a9.IsWhole) (hc0 : cond1_0 i) (hc1 : ¬cond1_1 i) (x0 : Vec F S3840x1 .f32) (x1 : Vec F S3840x1 .i32) (x2 : Vec F S128x512 .f32) (x3 : Vec F S2x512 .f32) (x4 : Vec F S50x1024 .f32) (x5 : Vec F S1x1024 .f32) (x6 : Vec F S1024x512 .f32) (x7 : Vec F S1x512 .f32) (x8 : Vec F S50x512 .f32) :
    out1_A_9 c i a0 h0 a1 h1 a2 h2 a3 h3 a4 h4 a5 h5 a6 h6 a7 h7 a8 h8 a9 h9 hc0 hc1 x0 x1 x2 x3 x4 x5 x6 x7 x8 = k1_pay1 x1 x2 (typeRow x3 0) := by
  unfold out1_A_9
  rw [View.read_writes_eq_canon _ _ _ (cover1_A_9 c i a0 h0 a1 h1 a2 h2 a3 h3 a4 h4 a5 h5 a6 h6 a7 h7 a8 h8 a9 h9 hc0 hc1 x0 x1 x2 x3 x4 x5 x6 x7 x8)]
  unfold kernelRun1_A
  dsimp only
  sl_unfold_words
  rw [View.canon_cons_unit_zero (S := S3840x512) off00]
  simp only [View.readAt_eq_ld, h1.read_unread, h2.read_unread, h3.read_unread, View.ld_unit_zero (S := S3840x1) off00, View.ld_unit_zero (S := S128x512) off00]
  exact congrArg (k1_pay1 x1 x2) (ld_row0 x3)

/-- A later grid point stores the edge payload. -/
theorem out_later (c : Dev nD) (i : grid1.Coords) (a0 : Memref sig .tc .vmem S3840x1 .f32) (h0 : a0.IsWhole) (a1 : Memref sig .tc .vmem S3840x1 .i32) (h1 : a1.IsWhole) (a2 : Memref sig .tc .vmem S128x512 .f32) (h2 : a2.IsWhole) (a3 : Memref sig .tc .vmem S2x512 .f32) (h3 : a3.IsWhole) (a4 : Memref sig .tc .vmem S50x1024 .f32) (h4 : a4.IsWhole) (a5 : Memref sig .tc .vmem S1x1024 .f32) (h5 : a5.IsWhole) (a6 : Memref sig .tc .vmem S1024x512 .f32) (h6 : a6.IsWhole) (a7 : Memref sig .tc .vmem S1x512 .f32) (h7 : a7.IsWhole) (a8 : Memref sig .tc .vmem S50x512 .f32) (h8 : a8.IsWhole) (a9 : Memref sig .tc .vmem S3840x512 .f32) (h9 : a9.IsWhole) (hc0 : ¬cond1_0 i) (hc1 : cond1_1 i) (x0 : Vec F S3840x1 .f32) (x1 : Vec F S3840x1 .i32) (x2 : Vec F S128x512 .f32) (x3 : Vec F S2x512 .f32) (x4 : Vec F S50x1024 .f32) (x5 : Vec F S1x1024 .f32) (x6 : Vec F S1024x512 .f32) (x7 : Vec F S1x512 .f32) (x8 : Vec F S50x512 .f32) :
    out1_B_9 c i a0 h0 a1 h1 a2 h2 a3 h3 a4 h4 a5 h5 a6 h6 a7 h7 a8 h8 a9 h9 hc0 hc1 x0 x1 x2 x3 x4 x5 x6 x7 x8 = k1_pay2 (k1_pay3 x0) (k1_pay4 x0 x4 x5 x6 x7) x8 (constant S3840x512 .f32 0x00000000#32) (typeRow x3 1) := by
  unfold out1_B_9
  rw [View.read_writes_eq_canon _ _ _ (cover1_B_9 c i a0 h0 a1 h1 a2 h2 a3 h3 a4 h4 a5 h5 a6 h6 a7 h7 a8 h8 a9 h9 hc0 hc1 x0 x1 x2 x3 x4 x5 x6 x7 x8)]
  unfold kernelRun1_B
  dsimp only
  sl_unfold_words
  rw [View.canon_cons_unit_zero (S := S3840x512) off00]
  simp only [View.readAt_eq_ld, h0.read_unread, h3.read_unread, h4.read_unread, h5.read_unread, h6.read_unread, h7.read_unread, h8.read_unread, View.ld_unit_zero (S := S3840x1) off00, View.ld_unit_zero (S := S50x1024) off00, View.ld_unit_zero (S := S1x1024) off00, View.ld_unit_zero (S := S1024x512) off00, View.ld_unit_zero (S := S1x512) off00, View.ld_unit_zero (S := S50x512) off00]
  exact congrArg (k1_pay2 (k1_pay3 x0) (k1_pay4 x0 x4 x5 x6 x7) x8 (constant S3840x512 .f32 0x00000000#32)) (ld_row1 x3)

end Cert.Mol

end
-- ==== Proof.TokSpec.lean ====
/- The tokens both programs compute, over the extended reals: a node's from its row of the embedding table, an edge's from its length. -/
module

public import proofs.«01_k».proof.Proof.Spec

@[expose] public section

noncomputable section

namespace Cert.Mol

open Idealize.ShloMosaic

/-- The factor both token kinds are scaled by, one over the square root of two as a float. -/
def half2 : EReal := Ideal.ofBits .f32 0x3F3504F3#32

/-- The centre of a radial basis function: fifty of them spaced evenly from 0 to 12. -/
def centre (k : ℕ) : EReal := (((k : ℝ) * (12 / 49) : ℝ) : EReal)

/-- A radial basis function of a length. -/
def radial (d : EReal) (k : ℕ) : EReal := Ideal.exp (((-2401 / 288 : ℝ) : EReal) * ((d - centre k) * (d - centre k)))

/-- The tanh form of the gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A hidden unit before the gelu. -/
def hidden (W1 : Fin 50 → Fin 1024 → EReal) (b1 : Fin 1024 → EReal) (d : EReal) (j : Fin 1024) : EReal :=
  (∑ k : Fin 50, radial d k.val * W1 k j) + b1 j

/-- An edge's token: the two-layer network of its radial basis, the linear skip of the same basis, the edges' type row, and the scale. -/
def edgeToken (W1 : Fin 50 → Fin 1024 → EReal) (b1 : Fin 1024 → EReal) (W2 : Fin 1024 → Fin 512 → EReal) (b2 : Fin 512 → EReal)
    (Ws : Fin 50 → Fin 512 → EReal) (te : Fin 512 → EReal) (d : EReal) (c : Fin 512) : EReal :=
  half2 * ((((∑ j : Fin 1024, gelu (hidden W1 b1 d j) * W2 j c) + b2 c) + ∑ k : Fin 50, radial d k.val * Ws k c) + te c)

/-- A node's token: its row of the table, the nodes' type row, and the scale. -/
def nodeToken (row te : Fin 512 → EReal) (c : Fin 512) : EReal := half2 * (row c + te c)

end Cert.Mol

end
-- ==== Proof.TokPay.lean ====
/- The token kernel's two payloads, read at a row and a column. -/
module

public import proofs.«01_k».proof.Proof.TokOut
public import proofs.«01_k».proof.Proof.TokSpec
public import Idealize.ShloMosaic.Lib.Routing.OpsSet

@[expose] public section

set_option maxRecDepth 16384

noncomputable section

namespace Cert.Mol

open Cert.KernelIdeal Cert.KernelIdeal.Gen Idealize.ShloMosaic Idealize.ShloMosaic.TcCoe

theorem radial_ker (x0 : S3840x1.Idx → EReal) (n : Fin 3840) (k : Fin 50) :
    k1_pay3 (F := Ideal) x0 (ix2 n k) = radial (x0 (ix2 n 0)) k.val := by
  unfold k1_pay3 radial
  pointwise
  have h1 : (Named.named κ "coeff" 0xC105638E#32 : Ideal .f32) = ((-2401 / 288 : ℝ) : EReal) := IdealRules.named_const.ideal_named_scalar _ _ _ _ rfl
  have h2 : (Named.named κ "step" 0x3E7AC688#32 : Ideal .f32) = ((12 / 49 : ℝ) : EReal) := IdealRules.named_const.ideal_named_scalar _ _ _ _ rfl
  have h3 : (FloatOps.sitofp FTy.f32 (BitVec.ofNat 32 k.val) : Ideal .f32) = ((k.val : ℝ) : EReal) := by
    show (((BitVec.ofNat 32 k.val).toInt : ℝ) : EReal) = _
    rw [StableHlo.Predicate.toInt_ofNat_small k.val (by omega)]
    norm_cast
  rw [h1, h2, h3]
  unfold centre
  rw [EReal.coe_mul]

theorem inner_ker (x0 : S3840x1.Idx → EReal) (x4 : S50x1024.Idx → EReal) (x5 : S1x1024.Idx → EReal) (x6 : S1024x512.Idx → EReal) (x7 : S1x512.Idx → EReal)
    (n : Fin 3840) (c : Fin 512) :
    k1_pay4 (F := Ideal) x0 x4 x5 x6 x7 (ix2 n c)
      = (∑ j : Fin 1024, gelu (hidden (fun k j => x4 (ix2 k j)) (fun j => x5 (ix2 0 j)) (x0 (ix2 n 0)) j) * x6 (ix2 j c)) + x7 (ix2 0 c) := by
  unfold k1_pay4
  pointwise
  simp only [radial_ker, gelu, hidden, Ideal.ofBits_one_f32]

theorem edge_ker (x0 : S3840x1.Idx → EReal) (x4 : S50x1024.Idx → EReal) (x5 : S1x1024.Idx → EReal) (x6 : S1024x512.Idx → EReal) (x7 : S1x512.Idx → EReal)
    (x8 : S50x512.Idx → EReal) (te : S1x512.Idx → EReal) (n : Fin 3840) (c : Fin 512) :
    k1_pay2 (F := Ideal) (k1_pay3 x0) (k1_pay4 x0 x4 x5 x6 x7) x8 (constant S3840x512 .f32 0x00000000#32) te (ix2 n c)
      = edgeToken (fun k j => x4 (ix2 k j)) (fun j => x5 (ix2 0 j)) (fun j c => x6 (ix2 j c)) (fun c => x7 (ix2 0 c)) (fun k c => x8 (ix2 k c))
          (fun c => te (ix2 0 c)) (x0 (ix2 n 0)) c := by
  unfold k1_pay2
  pointwise
  simp only [radial_ker, inner_ker]
  rfl

theorem node_ker (x1 : IVec S3840x1 32) (x2 : S128x512.Idx → EReal) (te : S1x512.Idx → EReal) (n : Fin 3840) (k : Fin 128)
    (hk : x1 (ix2 n 0) = BitVec.ofNat 32 k.val) (c : Fin 512) :
    k1_pay1 (F := Ideal) x1 x2 te (ix2 n c) = nodeToken (fun c => x2 (ix2 k c)) (fun c => te (ix2 0 c)) c := by
  unfold k1_pay1
  pointwise
  have h1 : ∀ q : Fin 128, (FloatOps.sitofp FTy.f32 (BitVec.setWidth 32 (IntOp.cmpi CmpIPredicate.eq (BitVec.ofNat 32 q.val) (x1 (ix2 n 0)))) : Ideal .f32) * x2 (ix2 q c)
      = if q = k then x2 (ix2 k c) else 0 := fun q => by
    rw [hk]
    by_cases e : q = k
    · subst e
      rw [if_pos rfl, IntOp.cmpi_eq_self]
      refine (congrArg (· * _) (show _ = (1 : EReal) from ?_)).trans (one_mul _)
      show (((BitVec.setWidth 32 1#1).toInt : ℝ) : EReal) = 1
      norm_num
    · have ne : IntOp.cmpi CmpIPredicate.eq (BitVec.ofNat 32 q.val) (BitVec.ofNat 32 k.val) = 0#1 := by
        have hne : BitVec.ofNat 32 q.val ≠ BitVec.ofNat 32 k.val := fun h => e (Fin.ext (by
          have h' := congrArg BitVec.toNat h
          rw [BitVec.toNat_ofNat, BitVec.toNat_ofNat, Nat.mod_eq_of_lt (by omega), Nat.mod_eq_of_lt (by omega)] at h'
          exact h'))
        show BitVec.ofBool (BitVec.ofNat 32 q.val == BitVec.ofNat 32 k.val) = 0#1
        rw [beq_eq_false_iff_ne.2 hne]
        rfl
      rw [if_neg e, ne]
      refine (congrArg (· * _) (show _ = (0 : EReal) from ?_)).trans (zero_mul _)
      show (((BitVec.setWidth 32 0#1).toInt : ℝ) : EReal) = 0
      norm_num
  rw [Finset.sum_congr rfl fun q _ => h1 q, Finset.sum_ite_eq' Finset.univ k]
  simp only [Finset.mem_univ, if_true]
  rfl

end Cert.Mol

end
-- ==== Proof.TokArrays.lean ====
/- The array the token kernel leaves: nine blocks of rows, the first holding the atoms' features and the other eight the edges'. -/
module

public import proofs.«01_k».proof.Proof.TokPay
public import proofs.«01_k».proof.Proof.GeoArrays

@[expose] public section

set_option maxRecDepth 16384

noncomputable section

namespace Cert.Mol

open Cert.KernelIdeal Cert.KernelIdeal.Gen Idealize.ShloMosaic Idealize.ShloMosaic.TcCoe

variable (V : (c : Dev nD) → (b : Ref sig .tc) → Buf (Elt Ideal) ((c : Thread nD τ).loc b)) (c : Dev nD)

/-- Where the first and the last windows' blocks lie: point `t` reads the lengths' block `t - 1` and writes block `t`. -/
theorem tok_idx : ∀ t : Fin cfg1.N, win1_0.index t (0 : Fin 2) = t.val - 1 ∧ win1_0.index t (1 : Fin 2) = 0
    ∧ win1_9.index t (0 : Fin 2) = t.val ∧ win1_9.index t (1 : Fin 2) = 0 :=
  (by decide +kernel : ∀ t : Fin grid1.N, _)

theorem tok_in1 (t : Fin cfg1.N) : iblk1 V c 1 t = V c main_v60 := View.ld_unit_zero (funext fun a => by fin_cases a <;> rfl) _ _
theorem tok_in2 (t : Fin cfg1.N) : iblk1 V c 2 t = V c main_v58 := View.ld_unit_zero (funext fun a => by fin_cases a <;> rfl) _ _
theorem tok_in3 (t : Fin cfg1.N) : iblk1 V c 3 t = V c main_v59 := View.ld_unit_zero (funext fun a => by fin_cases a <;> rfl) _ _
theorem tok_in4 (t : Fin cfg1.N) : iblk1 V c 4 t = V c main_arg6 := View.ld_unit_zero (funext fun a => by fin_cases a <;> rfl) _ _
theorem tok_in5 (t : Fin cfg1.N) : iblk1 V c 5 t = V c main_v62 := View.ld_unit_zero (funext fun a => by fin_cases a <;> rfl) _ _
theorem tok_in6 (t : Fin cfg1.N) : iblk1 V c 6 t = V c main_arg8 := View.ld_unit_zero (funext fun a => by fin_cases a <;> rfl) _ _
theorem tok_in7 (t : Fin cfg1.N) : iblk1 V c 7 t = V c main_v63 := View.ld_unit_zero (funext fun a => by fin_cases a <;> rfl) _ _
theorem tok_in8 (t : Fin cfg1.N) : iblk1 V c 8 t = V c main_arg10 := View.ld_unit_zero (funext fun a => by fin_cases a <;> rfl) _ _

/-- The lengths' block of an edge point: row `n` of point `t` is edge `3840 * (t - 1) + n`. -/
theorem tok_in0 (t : Fin cfg1.N) (n : Fin 3840) (e : Fin 30720) (he : e.val = (t.val - 1) * 3840 + n.val) :
    iblk1 V c 0 t (ix2 n 0) = V c main_v61 (ix2 e 0) := by
  obtain ⟨e0, e1, _, _⟩ := tok_idx t
  refine congrArg (V c main_v61) (funext fun a => Fin.ext ?_)
  match a with
  | ⟨0, _⟩ => show win1_0.index t (0 : Fin 2) * 3840 + 1 * n.val = e.val; omega
  | ⟨1, _⟩ => show win1_0.index t (1 : Fin 2) * 1 + 1 * 0 = 0; omega

/-- Where an index of an output block lies in the output. -/
theorem tok_emb (t : Fin cfg1.N) (n : Fin 3840) (k : Fin 512) (i : Fin 34560) (hi : i.val = t.val * 3840 + n.val) :
    ((cfg1.win 9).blk t).view.emb (ix2 n k) = (ix2 i k : S34560x512.Idx) := by
  obtain ⟨_, _, e0, e1⟩ := tok_idx t
  funext a; apply Fin.ext
  match a with
  | ⟨0, _⟩ => show win1_9.index t (0 : Fin 2) * 3840 + 1 * n.val = i.val; omega
  | ⟨1, _⟩ => show win1_9.index t (1 : Fin 2) * 512 + 1 * k.val = k.val; omega

/-- A whole array that agrees with the nine blocks is the array the kernel leaves. -/
theorem tok_arr (G : S34560x512.Idx → EReal)
    (hG : ∀ (t : Fin cfg1.N) (n : Fin 3840) (k : Fin 512) (i : Fin 34560), i.val = t.val * 3840 + n.val →
      outsAt1 V c t.val t.isLt (ix2 n k) = G (ix2 i k)) :
    (dat1 V c).arrAt 9 cfg1.N = G := by
  refine (dat1 V c).arrAt_eq_of_cover 9 G (fun t _ => ?_) (fun i => ?_)
  · show (cfg1.win 9).cut (grid1.coords t) ((dat1 V c).after 9 t) = _
    rw [after1_9]
    have ht : t.val < 9 := lt_of_lt_of_eq t.isLt N_1
    funext y
    obtain ⟨n, k, rfl⟩ : ∃ (n : Fin 3840) (k : Fin 512), y = ix2 n k := ⟨y 0, y 1, funext fun a => by fin_cases a <;> rfl⟩
    refine (hG t n k ⟨t.val * 3840 + n.val, by omega⟩ rfl).trans ?_
    exact (congrArg G (tok_emb t n k ⟨t.val * 3840 + n.val, by omega⟩ rfl)).symm
  · have h0 : (i (0 : Fin 2)).val < 34560 := (i (0 : Fin 2)).isLt
    have ht : (i (0 : Fin 2)).val / 3840 < cfg1.N := lt_of_lt_of_eq (by omega : _ < 9) N_1.symm
    refine ⟨⟨(i (0 : Fin 2)).val / 3840, ht⟩, flush1_9 _, ?_⟩
    have h : i = ((cfg1.win 9).blk ⟨(i (0 : Fin 2)).val / 3840, ht⟩).view.emb (ix2 ⟨(i (0 : Fin 2)).val % 3840, Nat.mod_lt _ (by omega)⟩ (i 1)) := by
      refine Eq.trans ?_ (tok_emb ⟨(i (0 : Fin 2)).val / 3840, ht⟩ ⟨(i (0 : Fin 2)).val % 3840, Nat.mod_lt _ (by omega)⟩ (i 1) (i 0) (by show (i (0 : Fin 2)).val = (i (0 : Fin 2)).val / 3840 * 3840 + (i (0 : Fin 2)).val % 3840; omega)).symm
      funext a; fin_cases a <;> rfl
    exact Finset.mem_map.2 ⟨_, Finset.mem_univ _, h.symm⟩

/-- The block of the first point, at a row and a column. -/
theorem tok_first (t : Fin cfg1.N) (ht : t.val = 0) (n : Fin 3840) (k : Fin 128) (hk : V c main_v60 (ix2 n 0) = BitVec.ofNat 32 k.val) (q : Fin 512) :
    outsAt1 V c t.val t.isLt (ix2 n q)
      = nodeToken (fun q => V c main_v58 (ix2 k q)) (fun q => V c main_v59 (ix2 0 q)) q := by
  rw [outsAt1_A V c t (by omega) (by omega), out_first, tok_in1, tok_in2, tok_in3]
  exact node_ker (V c main_v60) (V c main_v58) (typeRow (V c main_v59) 0) n k hk q

/-- The block of a later point, at a row and a column. -/
theorem tok_later (t : Fin cfg1.N) (ht : 1 ≤ t.val) (n : Fin 3840) (e : Fin 30720) (he : e.val = (t.val - 1) * 3840 + n.val) (q : Fin 512) :
    outsAt1 V c t.val t.isLt (ix2 n q)
      = edgeToken (fun k j => V c main_arg6 (ix2 k j)) (fun j => V c main_v62 (ix2 0 j)) (fun j c' => V c main_arg8 (ix2 j c'))
          (fun c' => V c main_v63 (ix2 0 c')) (fun k c' => V c main_arg10 (ix2 k c')) (fun c' => V c main_v59 (ix2 1 c')) (V c main_v61 (ix2 e 0)) q := by
  have h9 : t.val < 9 := lt_of_lt_of_eq t.isLt N_1
  rw [outsAt1_B V c t (by omega) ht, out_later, tok_in3, tok_in4, tok_in5, tok_in6, tok_in7, tok_in8]
  refine (edge_ker (iblk1 V c 0 t) (V c main_arg6) (V c main_v62) (V c main_arg8) (V c main_v63) (V c main_arg10) (typeRow (V c main_v59) 1) n q).trans ?_
  rw [tok_in0 V c t n e he]
  rfl

end Cert.Mol

end
-- ==== Proof.Table.lean ====
/- The padded table of atom features: written over zeros at offset zero, its first hundred rows are the argument's. -/
module

public import proofs.«01_k».proof.Proof.KerReads
public import Idealize.ShloMosaic.Lib.Routing.OpsSet
public import Idealize.ShloMosaic.Lib.Routing.OpsPair

@[expose] public section

noncomputable section

namespace Cert.Mol

open Cert.KernelIdeal Cert.KernelIdeal.Gen Idealize.ShloMosaic Idealize.ShloMosaic.TcCoe

/-- The dimensions of the padding write. -/
abbrev padD : ScatterDims S128x512 S1 S100x512 := scatter_S128x512_S1_S100x512_01_n_0_0

/-- The offset word: zero. -/
abbrev padI : IVec S1 32 := broadcastInDim S1 ![] bcast_S_S1 (constantI S_ 32 0#32)

theorem pad_window0 (k : S100x512.Idx) : padD.window k 0 = (k 0).val := rfl
theorem pad_window1 (k : S100x512.Idx) : padD.window k 1 = (k 1).val := rfl
theorem pad_start0 (k : S100x512.Idx) : padD.start k padI 0 = 0 := rfl
theorem pad_start1 (k : S100x512.Idx) : padD.start k padI 1 = 0 := rfl

theorem pad_lands (k : S100x512.Idx) (r : Fin 128) (c : Fin 512) :
    padD.resultIdx? k padI = some (ix2 r c) ↔ (k 0).val = r.val ∧ (k 1).val = c.val := by
  refine (Routing.resultIdx?_ix2 padD k padI r c).trans ?_
  rw [pad_window0, pad_window1, pad_start0, pad_start1]
  omega

/-- Row `k` of the padded table, for an atom number below a hundred, is row `k` of the argument. -/
theorem pad_row (x : S128x512.Idx → EReal) (a4 : S100x512.Idx → EReal) (k : Fin 100) (r : Fin 128) (hr : r.val = k.val) (c : Fin 512) :
    Host.scatter padD (fun _ b => b) x padI a4 (ix2 r c) = a4 (ix2 k c) := by
  refine Routing.scatter_set_hit padD x padI a4 (ix2 r c) (a4 (ix2 k c)) (fun q hq => ?_) (ix2 k c) ?_
  · obtain ⟨h0, h1⟩ := (pad_lands q r c).1 hq
    refine congrArg a4 (funext fun a => Fin.ext ?_)
    match a with
    | ⟨0, _⟩ => exact h0.trans hr
    | ⟨1, _⟩ => exact h1
  · exact (pad_lands _ r c).2 ⟨hr.symm, rfl⟩

end Cert.Mol

end
-- ==== Proof.TokKer.lean ====
/- The kernel's features, read at a row and a column over the program's arguments. -/
module

public import proofs.«01_k».proof.Proof.TokArrays
public import proofs.«01_k».proof.Proof.Table
public import proofs.«01_k».proof.Proof.KerVals

@[expose] public section

set_option maxRecDepth 16384

noncomputable section

namespace Cert.Mol

open Cert.KernelIdeal Cert.KernelIdeal.Gen Idealize.ShloMosaic Idealize.ShloMosaic.TcCoe

/-- A vector reshaped to a column, at a row. -/
theorem column_apply {α : Type} {N : ℕ} (x : (⟨1, ![N]⟩ : Shape).Idx → α) (h : (⟨1, ![N]⟩ : Shape).ShapeCasts ⟨2, ![N, 1]⟩) (n : Fin N) :
    shapeCast (⟨2, ![N, 1]⟩ : Shape) x h (ix2 n 0) = x (ix1 n) := by
  refine shapeCast_apply _ _ _ (ix1 n) ?_
  rw [rowMajor_val1, rowMajor_val2 _ 1 rfl]
  show n.val = n.val * 1 + 0
  omega

/-- A vector reshaped to a row, at a column. -/
theorem line_apply {α : Type} {N : ℕ} (x : (⟨1, ![N]⟩ : Shape).Idx → α) (h : (⟨1, ![N]⟩ : Shape).ShapeCasts ⟨2, ![1, N]⟩) (n : Fin N) :
    shapeCast (⟨2, ![1, N]⟩ : Shape) x h (ix2 0 n) = x (ix1 n) := by
  refine shapeCast_apply _ _ _ (ix1 n) ?_
  rw [rowMajor_val1, rowMajor_val2 _ N rfl]
  show n.val = 0 * N + n.val
  omega

/-- A three-axis array whose middle axis is one long, reshaped to two axes. -/
theorem middle_apply {α : Type} {M N : ℕ} (x : (⟨3, ![M, 1, N]⟩ : Shape).Idx → α) (h : (⟨3, ![M, 1, N]⟩ : Shape).ShapeCasts ⟨2, ![M, N]⟩) (r : Fin M) (n : Fin N) :
    shapeCast (⟨2, ![M, N]⟩ : Shape) x h (ix2 r n) = x (ix3 r 0 n) := by
  refine shapeCast_apply _ _ _ (ix3 r 0 n) ?_
  rw [rowMajor_val3 _ N N (Nat.one_mul N) rfl, rowMajor_val2 _ N rfl]
  show r.val * N + 0 * N + n.val = r.val * N + n.val
  rw [Nat.zero_mul, Nat.add_zero]

variable (m : (ℓ : Loc nD τ sig) → Buf (Elt Ideal) ℓ) (ρ : Dev nD → PrngReg) (c : Dev nD)

/-- The other floating-point arguments and the atoms' numbers. -/
abbrev numbers : IVec S3840 32 := m ((c : Thread nD τ).loc main_arg2)
abbrev atomTable : FVec Ideal S100x512 .f32 := m ((c : Thread nD τ).loc main_arg4)
abbrev typeTable : FVec Ideal S2x1x512 .f32 := m ((c : Thread nD τ).loc main_arg5)
abbrev weight1 : FVec Ideal S50x1024 .f32 := m ((c : Thread nD τ).loc main_arg6)
abbrev bias1 : FVec Ideal S1024 .f32 := m ((c : Thread nD τ).loc main_arg7)
abbrev weight2 : FVec Ideal S1024x512 .f32 := m ((c : Thread nD τ).loc main_arg8)
abbrev bias2 : FVec Ideal S512 .f32 := m ((c : Thread nD τ).loc main_arg9)
abbrev weightS : FVec Ideal S50x512 .f32 := m ((c : Thread nD τ).loc main_arg10)

theorem v3_v58 (k : Fin 100) (r : Fin 128) (hr : r.val = k.val) (q : Fin 512) :
    (V3 m ρ c main_v58 : S128x512.Idx → EReal) (ix2 r q) = atomTable m c (ix2 k q) := by
  refine (congrFun (post_v58 (W2 m ρ c)) _).trans ((pad_row _ _ k r hr q).trans ?_)
  exact congrFun (W2_args m ρ c main_arg4 (by decide)) _

theorem v3_v59 (r : Fin 2) (q : Fin 512) : (V3 m ρ c main_v59 : S2x512.Idx → EReal) (ix2 r q) = typeTable m c (ix3 r 0 q) := by
  refine (congrFun (post_v59 (W2 m ρ c)) _).trans ((middle_apply (M := 2) (N := 512) _ _ r q).trans ?_)
  exact congrFun (W2_args m ρ c main_arg5 (by decide)) _

theorem v3_v60 (n : Fin 3840) : (V3 m ρ c main_v60 : S3840x1.Idx → BitVec 32) (ix2 n 0) = numbers m c (ix1 n) := by
  refine (congrFun (post_v60 (W2 m ρ c)) _).trans ((column_apply (N := 3840) _ _ n).trans ?_)
  exact congrFun (W2_args m ρ c main_arg2 (by decide)) _

theorem v3_v61 (e : Fin 30720) : (V3 m ρ c main_v61 : S30720x1.Idx → EReal) (ix2 e 0) = length3 (edgeAt (pos m c) e.val) := by
  refine (congrFun (post_v61 (W2 m ρ c)) _).trans ((column_apply (N := 30720) _ _ e).trans ?_)
  rw [w2_9]
  exact dist_ker (pos m c) e

theorem v3_v62 (j : Fin 1024) : (V3 m ρ c main_v62 : S1x1024.Idx → EReal) (ix2 0 j) = bias1 m c (ix1 j) := by
  refine (congrFun (post_v62 (W2 m ρ c)) _).trans ((line_apply (N := 1024) _ _ j).trans ?_)
  exact congrFun (W2_args m ρ c main_arg7 (by decide)) _

theorem v3_v63 (j : Fin 512) : (V3 m ρ c main_v63 : S1x512.Idx → EReal) (ix2 0 j) = bias2 m c (ix1 j) := by
  refine (congrFun (post_v63 (W2 m ρ c)) _).trans ((line_apply (N := 512) _ _ j).trans ?_)
  exact congrFun (W2_args m ρ c main_arg9 (by decide)) _

theorem v3_6 : V3 m ρ c main_arg6 = weight1 m c := W3_args m ρ c main_arg6 (by decide)
theorem v3_8 : V3 m ρ c main_arg8 = weight2 m c := W3_args m ρ c main_arg8 (by decide)
theorem v3_10 : V3 m ρ c main_arg10 = weightS m c := W3_args m ρ c main_arg10 (by decide)

/-- A row of the first block: an atom's token. -/
theorem ker_node (t : Fin cfg1.N) (ht : t.val = 0) (n : Fin 3840) (k : Fin 100) (hk : numbers m c (ix1 n) = BitVec.ofNat 32 k.val) (q : Fin 512) :
    outsAt1 (V3 m ρ) c t.val t.isLt (ix2 n q) = nodeToken (fun q => atomTable m c (ix2 k q)) (fun q => typeTable m c (ix3 0 0 q)) q := by
  refine (tok_first (V3 m ρ) c t ht n ⟨k.val, by omega⟩ ((v3_v60 m ρ c n).trans hk) q).trans ?_
  exact congrArg₂ (fun a b => nodeToken a b q) (funext fun q => v3_v58 m ρ c k _ rfl q) (funext fun q => v3_v59 m ρ c 0 q)

/-- A row of a later block: an edge's token. -/
theorem ker_edge (t : Fin cfg1.N) (ht : 1 ≤ t.val) (n : Fin 3840) (e : Fin 30720) (he : e.val = (t.val - 1) * 3840 + n.val) (q : Fin 512) :
    outsAt1 (V3 m ρ) c t.val t.isLt (ix2 n q)
      = edgeToken (fun k j => weight1 m c (ix2 k j)) (fun j => bias1 m c (ix1 j)) (fun j q => weight2 m c (ix2 j q)) (fun q => bias2 m c (ix1 q))
          (fun k q => weightS m c (ix2 k q)) (fun q => typeTable m c (ix3 1 0 q)) (length3 (edgeAt (pos m c) e.val)) q := by
  refine (tok_later (V3 m ρ) c t ht n e he q).trans ?_
  have h1 := funext fun j => v3_v62 m ρ c j
  have h2 := funext fun j => v3_v63 m ρ c j
  have h3 := funext fun q => v3_v59 m ρ c 1 q
  rw [v3_6, v3_8, v3_10, v3_v61 m ρ c e]
  exact congr (congrArg (fun f => edgeToken _ f _ _ _ _ _) h1 |>.trans
    ((congrArg (fun f => edgeToken _ _ _ f _ _ _) h2).trans (congrArg (fun f => edgeToken _ _ _ _ _ f _) h3))) rfl

/-- A whole array of features that agrees with the atoms' tokens and then the edges' is what the program ends holding. -/
theorem w4_v64 (hn : ∀ n : Fin 3840, ∃ k : Fin 100, numbers m c (ix1 n) = BitVec.ofNat 32 k.val) (G : S34560x512.Idx → EReal)
    (hnode : ∀ (i : Fin 34560) (n : Fin 3840), n.val = i.val → ∀ k : Fin 100, numbers m c (ix1 n) = BitVec.ofNat 32 k.val → ∀ q : Fin 512,
      G (ix2 i q) = nodeToken (fun q => atomTable m c (ix2 k q)) (fun q => typeTable m c (ix3 0 0 q)) q)
    (hedge : ∀ (i : Fin 34560) (e : Fin 30720), e.val + 3840 = i.val → ∀ q : Fin 512,
      G (ix2 i q) = edgeToken (fun k j => weight1 m c (ix2 k j)) (fun j => bias1 m c (ix1 j)) (fun j q => weight2 m c (ix2 j q)) (fun q => bias2 m c (ix1 q))
          (fun k q => weightS m c (ix2 k q)) (fun q => typeTable m c (ix3 1 0 q)) (length3 (edgeAt (pos m c) e.val)) q) :
    W4 m ρ c (Proc.devRef .tc main_v64) = G := by
  refine (W4_arr m ρ c 9).trans (tok_arr (V3 m ρ) c G fun t n q i hi => ?_)
  have h9 : t.val < 9 := lt_of_lt_of_eq t.isLt N_1
  by_cases ht : t.val = 0
  · obtain ⟨k, hk⟩ := hn n
    refine (ker_node m ρ c t ht n k hk q).trans (hnode i n ?_ k hk q).symm
    rw [hi, ht]; omega
  · refine (ker_edge m ρ c t (by omega) n ⟨(t.val - 1) * 3840 + n.val, by omega⟩ rfl q).trans (hedge i _ ?_ q).symm
    show (t.val - 1) * 3840 + n.val + 3840 = i.val
    omega

end Cert.Mol

end
-- ==== Proof.PreRead.lean ====
/- What the precondition says of the integer arguments, element by element. -/
module

public import proofs.«01_k».proof.Pre_ring_graph
public import proofs.«01_k».proof.Proof.Spec
public import proofs.«01_k».proof.Proof.Gen.KernelIdeal.Frame
public import Idealize.ShloMosaic.Lib.Affine
public import Idealize.ShloMosaic.Lib.StableHlo.Predicate

@[expose] public section

set_option maxRecDepth 16384

noncomputable section

namespace Cert.Mol

open Idealize.ShloMosaic

/-- The quotient of two small positive words. -/
theorem div_word (u : ArithUnit) (a b : ℕ) (ha : a < 2 ^ 31) (h0 : 0 < b) (hb : b < 2 ^ 31) :
    IntOp.divsi u (BitVec.ofNat 32 a) (BitVec.ofNat 32 b) = BitVec.ofNat 32 (a / b) := by
  have ha' : (BitVec.ofNat 32 a).toNat = a := by rw [BitVec.toNat_ofNat]; omega
  have hb' : (BitVec.ofNat 32 b).toNat = b := by rw [BitVec.toNat_ofNat]; omega
  have hma : (BitVec.ofNat 32 a).msb = false := by rw [BitVec.msb_eq_false_iff_two_mul_lt, ha']; omega
  have hmb : (BitVec.ofNat 32 b).msb = false := by rw [BitVec.msb_eq_false_iff_two_mul_lt, hb']; omega
  have hd : a / b ≤ a := Nat.div_le_self a b
  unfold IntOp.divsi
  rw [if_neg (IntOp.not_corner_of_pos (by rw [BitVec.toInt_eq_toNat_of_lt (by omega)]; omega)), BitVec.sdiv_eq, hma, hmb]
  apply BitVec.eq_of_toNat_eq
  show (BitVec.ofNat 32 a / BitVec.ofNat 32 b).toNat = _
  rw [BitVec.toNat_udiv, ha', hb', BitVec.toNat_ofNat]
  exact (Nat.mod_eq_of_lt (by omega)).symm

/-- The remainder of two small positive words. -/
theorem rem_word (u : ArithUnit) (a b : ℕ) (ha : a < 2 ^ 31) (h0 : 0 < b) (hb : b < 2 ^ 31) :
    IntOp.remsi u (BitVec.ofNat 32 a) (BitVec.ofNat 32 b) = BitVec.ofNat 32 (a % b) := by
  have ha' : (BitVec.ofNat 32 a).toNat = a := by rw [BitVec.toNat_ofNat]; omega
  have hd : a % b ≤ a := Nat.mod_le a b
  apply BitVec.eq_of_toNat_eq
  rw [IntOp.toNat_remsi u (by omega) b h0 (by omega), ha', BitVec.toNat_ofNat]
  exact (Nat.mod_eq_of_lt (by omega)).symm

/-- The wrap of a negative index leaves a small number as it is. -/
theorem wrap_word (a : ℕ) (ha : a < 2 ^ 31) (N : BitVec 32) :
    Scalar.select (IntOp.cmpi .slt (BitVec.ofNat 32 a) 0#32) (IntOp.addi (BitVec.ofNat 32 a) N) (BitVec.ofNat 32 a) = BitVec.ofNat 32 a := by
  have hc : IntOp.cmpi .slt (BitVec.ofNat 32 a) 0#32 ≠ 1#1 := by
    rw [Ne, IntOp.cmpi_slt, StableHlo.Predicate.toInt_ofNat_small a ha]
    show ¬ ((a : ℤ) < 0)
    omega
  exact if_neg hc

theorem add_word (a b : ℕ) : BitVec.ofNat 32 a + BitVec.ofNat 32 b = BitVec.ofNat 32 (a + b) := by
  apply BitVec.eq_of_toNat_eq
  simp [BitVec.toNat_add]

theorem mul_word (a b : ℕ) : BitVec.ofNat 32 a * BitVec.ofNat 32 b = BitVec.ofNat 32 (a * b) := by
  apply BitVec.eq_of_toNat_eq
  simp [BitVec.toNat_mul]

variable [Cert.Pre_ring_graph.Facts]

open Cert.Pre_ring_graph

/-- The sources of the ring graph. -/
theorem ring_src (u : ArithUnit) (e : ℕ) (he : e < 30720) :
    IntOp.divsi u (BitVec.ofNat 32 e) 240#32 * 30#32 + IntOp.divsi u (IntOp.remsi u (BitVec.ofNat 32 e) 240#32) 8#32
      = BitVec.ofNat 32 (srcOf e) := by
  rw [div_word u e 240 (by omega) (by omega) (by omega), rem_word u e 240 (by omega) (by omega) (by omega),
    div_word u (e % 240) 8 (by omega) (by omega) (by omega), mul_word, add_word]
  exact congrArg _ (by unfold srcOf; omega)

/-- The destinations of the ring graph. -/
theorem ring_dst (u : ArithUnit) (e : ℕ) (he : e < 30720) :
    IntOp.divsi u (BitVec.ofNat 32 e) 240#32 * 30#32
        + IntOp.remsi u (IntOp.divsi u (IntOp.remsi u (BitVec.ofNat 32 e) 240#32) 8#32
          + (IntOp.remsi u (IntOp.remsi u (BitVec.ofNat 32 e) 240#32) 8#32 + 1#32)) 30#32
      = BitVec.ofNat 32 (dstOf e) := by
  rw [div_word u e 240 (by omega) (by omega) (by omega), rem_word u e 240 (by omega) (by omega) (by omega),
    div_word u (e % 240) 8 (by omega) (by omega) (by omega), rem_word u (e % 240) 8 (by omega) (by omega) (by omega), add_word, add_word,
    rem_word u _ 30 (by omega) (by omega) (by omega), mul_word, add_word]
  refine congrArg _ ?_
  unfold dstOf
  have g : e % 240 % 8 = e % 8 := by omega
  rw [g, Nat.add_assoc, Nat.mul_comm]

theorem pre_read (a0 a1 a2 a3 a4 a5 a6 a7 a8 a9 a10)
    (h : (fn (F := Ideal) a0 a1 a2 a3 a4 a5 a6 a7 a8 a9 a10).1 = (fun _ => 1#1) ∧ (fn (F := Ideal) a0 a1 a2 a3 a4 a5 a6 a7 a8 a9 a10).2 = (fun _ => 1#1)) :
    (∀ n : Fin 3840, ∃ k : Fin 100, a2 (ix1 n) = BitVec.ofNat 32 k.val)
      ∧ (∀ e : Fin 30720, a3 (ix2 0 e) = BitVec.ofNat 32 (srcOf e.val)) ∧ (∀ e : Fin 30720, a3 (ix2 1 e) = BitVec.ofNat 32 (dstOf e.val)) := by
  have row : ∀ (r : Fin 2) (off : Fin 2 → ℕ) (ho : off = ![r.val, 0]) (hs : S2x30720.Slices off S1x30720) (hc : S1x30720.ShapeCasts S30720) (e : Fin 30720),
      shapeCast S30720 (extractStridedSlice S1x30720 off a3 hs) hc (ix1 e) = a3 (ix2 r e) := by
    intro r off ho hs hc e
    subst ho
    refine (shapeCast_apply _ _ _ (ix2 (0 : Fin 1) e) ?_).trans ?_
    · rw [rowMajor_val1, rowMajor_val2 _ 30720 rfl]
      show 0 * 30720 + e.val = e.val
      omega
    · refine extractStridedSlice_apply _ _ _ _ _ fun c => ?_
      match c with
      | ⟨0, _⟩ => rfl
      | ⟨1, _⟩ => exact (Nat.zero_add _).symm
  refine ⟨fun n => ?_, fun e => ?_, fun e => ?_⟩
  · have hn : IntOp.andi (IntOp.cmpi .sge (a2 (ix1 n)) 0#32) (IntOp.cmpi .slt (a2 (ix1 n)) 100#32) = 1#1 := congrFun h.1 (ix1 n)
    obtain ⟨h1, h2⟩ := IntOp.andi_eq_one.1 hn
    rw [IntOp.cmpi_sge] at h1
    rw [IntOp.cmpi_slt] at h2
    generalize a2 (ix1 n) = w at h1 h2
    have e0 : (0#32 : BitVec 32).toInt = 0 := rfl
    have e1 : (100#32 : BitVec 32).toInt = 100 := rfl
    rw [e0] at h1
    rw [e1] at h2
    have hw := BitVec.toInt_eq_toNat_cond w
    have hl := w.isLt
    have hk : w.toNat < 100 := by split at hw <;> omega
    exact ⟨⟨w.toNat, hk⟩, BitVec.eq_of_toNat_eq (by rw [BitVec.toNat_ofNat]; exact (Nat.mod_eq_of_lt hl).symm)⟩
  · have hn := congrFun h.2 (ix1 e)
    obtain ⟨h1, _⟩ := IntOp.andi_eq_one.1 hn
    exact (row 0 _ rfl _ _ e).symm.trans ((IntOp.cmpi_eq.1 h1).trans (ring_src _ e.val e.isLt))
  · have hn := congrFun h.2 (ix1 e)
    obtain ⟨_, h1⟩ := IntOp.andi_eq_one.1 hn
    exact (row 1 _ rfl _ _ e).symm.trans ((IntOp.cmpi_eq.1 h1).trans (ring_dst _ e.val e.isLt))

end Cert.Mol

end
-- ==== Proof.RefGeo.lean ====
/- The reference's edge vectors, lengths and directions. -/
module

public import proofs.«01_k».proof.Proof.PreRead
public import proofs.«01_k».proof.Proof.RefRun
public import Idealize.ShloMosaic.Lib.Routing.OpsSet

@[expose] public section

set_option maxRecDepth 16384

noncomputable section

namespace Cert.Mol

open Cert.ReferenceIdeal Cert.ReferenceIdeal.Gen Cert.ReferenceIdeal.Read Idealize.ShloMosaic Idealize.ShloMosaic.TcCoe

/-- The edge list is the ring graph's. -/
structure IsRing (x3 : IVec (⟨2, ![2, 30720]⟩ : Shape) 32) : Prop where
  src : ∀ e : Fin 30720, x3 (ix2 0 e) = BitVec.ofNat 32 (srcOf e.val)
  dst : ∀ e : Fin 30720, x3 (ix2 1 e) = BitVec.ofNat 32 (dstOf e.val)

theorem srcOf_lt {e : ℕ} (h : e < 30720) : srcOf e < 3840 := by unfold srcOf; omega

theorem dstOf_lt {e : ℕ} (h : e < 30720) : dstOf e < 3840 := by unfold dstOf; omega

section
variable (x0 : Pos) (x3 : IVec S2x30720 32) (h : IsRing x3)
include h

theorem v14_ref (e : Fin 30720) : val_main_v14 (F := Ideal) x3 (ix1 e) = BitVec.ofNat 32 (dstOf e.val) := by
  rw [val_main_v14_apply, val_main_v13_apply, ← h.dst e]
  refine congrArg x3 (funext fun a => Fin.ext ?_)
  match a with
  | ⟨0, _⟩ => rfl
  | ⟨1, _⟩ => exact Nat.mod_eq_of_lt e.isLt

theorem v23_ref (e : Fin 30720) : val_main_v23 (F := Ideal) x3 (ix1 e) = BitVec.ofNat 32 (srcOf e.val) := by
  rw [val_main_v23_apply, val_main_v22_apply, ← h.src e]
  refine congrArg x3 (funext fun a => Fin.ext ?_)
  match a with
  | ⟨0, _⟩ => rfl
  | ⟨1, _⟩ => exact Nat.mod_eq_of_lt e.isLt

theorem v20_ref (e : Fin 30720) : val_main_v20 (F := Ideal) x3 (ix2 e 0) = BitVec.ofNat 32 (dstOf e.val) := by
  have hd := dstOf_lt e.isLt
  rw [val_main_v20_apply, show idx_main_v20 (ix2 e 0) = ix1 e from funext fun a => by match a with | ⟨0, _⟩ => rfl, val_main_v19_apply, val_main_v16_apply, val_main_v18_apply, v14_ref x3 h e, val_main_v15_apply]
  exact wrap_word _ (by omega) _

theorem v29_ref (e : Fin 30720) : val_main_v29 (F := Ideal) x3 (ix2 e 0) = BitVec.ofNat 32 (srcOf e.val) := by
  have hd := srcOf_lt e.isLt
  rw [val_main_v29_apply, show idx_main_v29 (ix2 e 0) = ix1 e from funext fun a => by match a with | ⟨0, _⟩ => rfl, val_main_v28_apply, val_main_v25_apply, val_main_v27_apply, v23_ref x3 h e, val_main_v24_apply]
  exact wrap_word _ (by omega) _

theorem v31_ref (e : Fin 30720) (k : Fin 3) : val_main_v31 (F := Ideal) x0 x3 (ix2 e k) = edgeAt x0 e.val k := by
  have h1 : val_main_v21 (F := Ideal) x0 x3 (ix2 e k) = atomAt x0 (dstOf e.val) k :=
    (Routing.gather_row _ rfl rfl rfl rfl rfl x0 _ e k (⟨dstOf e.val, dstOf_lt e.isLt⟩ : Fin 3840) (v20_ref x3 h e) (by omega)).trans (atomAt_eq _ _ _ _ rfl)
  have h2 : val_main_v30 (F := Ideal) x0 x3 (ix2 e k) = atomAt x0 (srcOf e.val) k :=
    (Routing.gather_row _ rfl rfl rfl rfl rfl x0 _ e k (⟨srcOf e.val, srcOf_lt e.isLt⟩ : Fin 3840) (v29_ref x3 h e) (by omega)).trans (atomAt_eq _ _ _ _ rfl)
  rw [val_main_v31_apply, h1, h2]
  rfl

theorem v32_ref (e : Fin 30720) : val_main_v32 (F := Ideal) x0 x3 (ix1 e) = length3 (edgeAt x0 e.val) := by
  have hk : ∀ k, val_main_call0_v0 (F := Ideal) x0 x3 (idx_main_call0_v1 (ix1 e) k) = edgeAt x0 e.val k * edgeAt x0 e.val k := fun k => by
    rw [show idx_main_call0_v1 (ix1 e) k = ix2 e k from funext fun a => by match a with | ⟨0, _⟩ => rfl | ⟨1, _⟩ => rfl, val_main_call0_v0_apply, v31_ref x0 x3 h]
    rfl
  rw [val_main_v32_apply, val_main_call0_v1_apply, Fin.sum_univ_three, hk, hk, hk, val_main_call0_cst_apply]
  refine congrArg Ideal.sqrt ?_
  refine (congrArg (· + _) (show (FloatOps.ofBits .f32 0x00000000#32 : Ideal .f32) = (0 : EReal) from Ideal.ofBits_zero_f32)).trans (zero_add _)

theorem v37_ref (e : Fin 30720) (k : Fin 3) : val_main_v37 (F := Ideal) x0 x3 (ix2 e k) = dirAt x0 e.val k := by
  rw [val_main_v37_apply, v31_ref x0 x3 h, val_main_v36_apply, val_main_v35_apply, val_main_v34_apply,
    show idx_main_v35 (idx_main_v36 (ix2 e k)) = ix1 e from funext fun a => by match a with | ⟨0, _⟩ => rfl, v32_ref x0 x3 h, val_main_v33_apply]
  rfl
end

theorem all_word (m q : ℕ) (hm : m < 128) : BitVec.ofNat 32 m * 30#32 + BitVec.ofNat 32 q = BitVec.ofNat 32 (30 * m + q) := by
  rw [mul_word, add_word]
  exact congrArg _ (by omega)

theorem v100_ref (i : Fin 115200) : val_main_v100 (F := Ideal) (ix1 i) = BitVec.ofNat 32 (30 * (i.val / 900) + i.val % 30) := by
  rw [val_main_v100_apply, val_main_v99_apply, val_main_v97_apply, val_main_v98_apply, val_main_v95_apply, val_main_v94_apply, val_main_v96_apply,
    val_main_v88_apply, val_main_v87_apply, val_main_v86_apply, val_main_v92_apply, val_main_v93_apply, val_main_v85_apply]
  have e : (idx_main_v86 (idx_main_v87 (idx_main_v88 (idx_main_v96 (idx_main_v98 (idx_main_v100 (ix1 i)))))) 0).val = i.val % 30 := by
    show 0 * 30 + i.val % 900 % 30 = i.val % 30
    omega
  exact (congrArg (fun q => IntOp.addi _ (BitVec.ofNat 32 q)) e).trans (all_word (i.val / 900) (i.val % 30) (by omega))

theorem v105_ref (i : Fin 115200) : val_main_v105 (F := Ideal) (ix1 i) = BitVec.ofNat 32 (30 * (i.val / 900) + i.val % 900 / 30) := by
  rw [val_main_v105_apply, val_main_v104_apply, val_main_v102_apply, val_main_v103_apply, val_main_v95_apply, val_main_v94_apply, val_main_v101_apply,
    val_main_v91_apply, val_main_v90_apply, val_main_v92_apply, val_main_v93_apply, val_main_v89_apply]
  exact (all_word (i.val / 900) (i.val % 900 / 30) (by omega))

theorem v124_ref (x0 : Pos) (i : Fin 115200) :
    val_main_v124 (F := Ideal) x0 (ix1 i) = length3 (between x0 (30 * (i.val / 900) + i.val % 30) (30 * (i.val / 900) + i.val % 900 / 30)) := by
  have h1 : ∀ k, val_main_v115 (F := Ideal) x0 (ix2 i k) = atomAt x0 (30 * (i.val / 900) + i.val % 900 / 30) k := fun k =>
    (Routing.gather_row _ rfl rfl rfl rfl rfl x0 _ i k (⟨30 * (i.val / 900) + i.val % 900 / 30, by omega⟩ : Fin 3840) (by
      refine (val_main_v114_apply (F := Ideal) _).trans ((congrArg (val_main_v113 (F := Ideal)) (show idx_main_v114 (ix2 i 0) = ix1 i from funext fun a => by match a with | ⟨0, _⟩ => rfl)).trans ?_)
      rw [val_main_v113_apply, val_main_v110_apply, val_main_v112_apply, v105_ref, val_main_v109_apply]
      exact wrap_word _ (by omega) _) (by omega)).trans (atomAt_eq _ _ _ _ rfl)
  have h2 : ∀ k, val_main_v122 (F := Ideal) x0 (ix2 i k) = atomAt x0 (30 * (i.val / 900) + i.val % 30) k := fun k =>
    (Routing.gather_row _ rfl rfl rfl rfl rfl x0 _ i k (⟨30 * (i.val / 900) + i.val % 30, by omega⟩ : Fin 3840) (by
      refine (val_main_v121_apply (F := Ideal) _).trans ((congrArg (val_main_v120 (F := Ideal)) (show idx_main_v121 (ix2 i 0) = ix1 i from funext fun a => by match a with | ⟨0, _⟩ => rfl)).trans ?_)
      rw [val_main_v120_apply, val_main_v117_apply, val_main_v119_apply, v100_ref, val_main_v116_apply]
      exact wrap_word _ (by omega) _) (by omega)).trans (atomAt_eq _ _ _ _ rfl)
  have hk : ∀ k, val_main_call2_v0 (F := Ideal) x0 (idx_main_call2_v1 (ix1 i) k) = between x0 (30 * (i.val / 900) + i.val % 30) (30 * (i.val / 900) + i.val % 900 / 30) k
      * between x0 (30 * (i.val / 900) + i.val % 30) (30 * (i.val / 900) + i.val % 900 / 30) k := fun k => by
    rw [show idx_main_call2_v1 (ix1 i) k = ix2 i k from funext fun a => by match a with | ⟨0, _⟩ => rfl | ⟨1, _⟩ => rfl, val_main_call2_v0_apply, val_main_v123_apply, h1, h2]
    rfl
  rw [val_main_v124_apply, val_main_call2_v1_apply, Fin.sum_univ_three, hk, hk, hk, val_main_call2_cst_apply]
  refine congrArg Ideal.sqrt ?_
  refine (congrArg (· + _) (show (FloatOps.ofBits .f32 0x00000000#32 : Ideal .f32) = (0 : EReal) from Ideal.ofBits_zero_f32)).trans (zero_add _)

end Cert.Mol

end
-- ==== Proof.TokRef.lean ====
/- The reference's tokens. -/
module

public import proofs.«01_k».proof.Proof.RefGeo
public import proofs.«01_k».proof.Proof.TokSpec
public import Idealize.ShloMosaic.Lib.IdealHost

@[expose] public section

set_option maxRecDepth 16384

noncomputable section

namespace Cert.Mol

open Cert.ReferenceIdeal Cert.ReferenceIdeal.Gen Cert.ReferenceIdeal.Read Idealize.ShloMosaic Idealize.ShloMosaic.TcCoe

theorem bits_twelve : Ideal.ofBits .f32 0x41400000#32 = ((12 : ℝ) : EReal) := by
  simp [Ideal.ofBits, Ideal.ieee, -EReal.coe_mul]; norm_num

theorem bits_49 : Ideal.ofBits .f32 0x42440000#32 = ((49 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

/-- A quotient of two reals, the divisor not zero. -/
theorem div_real (x y : ℝ) (hy : y ≠ 0) : Ideal.div (x : EReal) (y : EReal) = ((x / y : ℝ) : EReal) := by
  unfold Ideal.div
  rw [if_neg (by simpa using hy), ← EReal.coe_inv, ← EReal.coe_mul]
  rfl

/-- One element of a rank-zero array, reshaped to length one. -/
theorem cast_one {α : Type} (x : S_.Idx → α) (i : S1.Idx) (h : S_.ShapeCasts S1) : shapeCast S1 x h i = x (fun a => a.elim0) := by
  unfold shapeCast
  exact congrArg x (funext fun a => a.elim0)

theorem cast_zero {α : Type} (x : S1.Idx → α) (i : S_.Idx) (h : S1.ShapeCasts S_) : shapeCast S_ x h i = x (ix1 0) := by
  unfold shapeCast
  exact congrArg x (funext fun a => by
    match a with
    | ⟨0, _⟩ => exact Fin.ext (by
        have e : ∀ q : Fin (S1.size 0), q.val = 0 := fun q => by have : q.val < 1 := q.isLt; omega
        exact (e _).trans (e _).symm))

/-- Two lists of rows joined, read at a row of the first. -/
theorem join_first {N M C : ℕ} (x : (⟨2, ![N, C]⟩ : Shape).Idx → EReal) (y : (⟨2, ![M, C]⟩ : Shape).Idx → EReal)
    (h : Shape.Concatenates [(⟨2, ![N, C]⟩ : Shape), ⟨2, ![M, C]⟩] ⟨2, ![N + M, C]⟩ 0) (i : Fin (N + M)) (a : Fin N) (e : a.val = i.val) (c : Fin C) :
    concatenate ⟨2, ![N + M, C]⟩ 0 [⟨⟨2, ![N, C]⟩, x⟩, ⟨⟨2, ![M, C]⟩, y⟩] h (ix2 i c) = x (ix2 a c) :=
  concatenate_pair_apply_left (t := ⟨2, ![N + M, C]⟩) (s₁ := ⟨2, ![N, C]⟩) (s₂ := ⟨2, ![M, C]⟩) 0 x y h (ix2 i c) rfl (ix2 a c) fun b => match b with
    | ⟨0, _⟩ => e
    | ⟨1, _⟩ => rfl

/-- Two lists of rows joined, read at a row of the second. -/
theorem join_second {N M C : ℕ} (x : (⟨2, ![N, C]⟩ : Shape).Idx → EReal) (y : (⟨2, ![M, C]⟩ : Shape).Idx → EReal)
    (h : Shape.Concatenates [(⟨2, ![N, C]⟩ : Shape), ⟨2, ![M, C]⟩] ⟨2, ![N + M, C]⟩ 0) (i : Fin (N + M)) (a : Fin M) (e : a.val + N = i.val) (c : Fin C) :
    concatenate ⟨2, ![N + M, C]⟩ 0 [⟨⟨2, ![N, C]⟩, x⟩, ⟨⟨2, ![M, C]⟩, y⟩] h (ix2 i c) = y (ix2 a c) :=
  concatenate_pair_apply_right (t := ⟨2, ![N + M, C]⟩) (s₁ := ⟨2, ![N, C]⟩) (s₂ := ⟨2, ![M, C]⟩) 0 x y h (ix2 i c) rfl rfl (ix2 a c)
    (fun b hb => match b with
      | ⟨0, _⟩ => absurd rfl hb
      | ⟨1, _⟩ => rfl) e

/-- The first 49 centres. -/
theorem line_ref (i : Fin 49) : val_main_call1_v15 (F := Ideal) (ix1 i) = centre i.val := by
  have h4 : val_main_call1_v4 (F := Ideal) (ix1 i) = ((i.val : ℝ) : EReal) := by
    show (((BitVec.ofNat 32 i.val).toInt : ℝ) : EReal) = _
    rw [StableHlo.Predicate.toInt_ofNat_small i.val (by omega)]
    norm_cast
  have h6 : val_main_call1_v6 (F := Ideal) (ix1 i) = ((i.val / 49 : ℝ) : EReal) := by
    rw [val_main_call1_v6_apply, h4, val_main_call1_v5_apply, val_main_call1_cst_0_apply]
    exact (congrArg (Ideal.div _) bits_49).trans (div_real _ _ (by norm_num))
  have h10 : val_main_call1_v10 (F := Ideal) (ix1 i) = 0 := by
    rw [val_main_call1_v10_apply]
    unfold val_main_call1_v7
    rw [cast_one, val_main_call1_v0_apply, val_main_cst_6_apply]
    exact Ideal.ofBits_zero_f32
  have h13 : val_main_call1_v13 (F := Ideal) (ix1 i) = ((12 : ℝ) : EReal) := by
    rw [val_main_call1_v13_apply]
    unfold val_main_call1_v12
    rw [cast_one, val_main_call1_v1_apply, val_main_cst_7_apply]
    exact bits_twelve
  rw [val_main_call1_v15_apply, val_main_call1_v11_apply, val_main_call1_v14_apply, h10, h13, h6]
  show (0 : EReal) * _ + ((12 : ℝ) : EReal) * ((i.val / 49 : ℝ) : EReal) = centre i.val
  rw [zero_mul, zero_add, ← EReal.coe_mul]
  unfold centre
  congr 1
  ring

/-- The fifty centres. -/
theorem centre_ref (k : Fin 50) : val_main_v38 (F := Ideal) (ix1 k) = centre k.val := by
  unfold val_main_v38
  by_cases hk : k.val < 49
  · exact (concatenate_pair_apply_left (t := S50) (s₁ := S49) (s₂ := S1) 0 _ _ _ (ix1 k) rfl (ix1 ⟨k.val, hk⟩) fun b => match b with
      | ⟨0, _⟩ => rfl).trans (line_ref _)
  · have e : k.val = 49 := by omega
    refine (concatenate_pair_apply_right (t := S50) (s₁ := S49) (s₂ := S1) 0 _ _ _ (ix1 k) rfl rfl (ix1 0) (fun b hb => match b with
      | ⟨0, _⟩ => absurd rfl hb) (show 0 + 49 = k.val by omega)).trans ?_
    rw [val_main_call1_v16_apply, val_main_call1_v1_apply, val_main_cst_7_apply]
    refine bits_twelve.trans ?_
    rw [e]
    unfold centre
    congr 1
    norm_num

theorem coeff_ref (i : S_.Idx) : val_main_v45 (F := Ideal) i = ((-2401 / 288 : ℝ) : EReal) := by
  have h43 : val_main_v43 (F := Ideal) i = ((12 / 49 : ℝ) : EReal) := by
    rw [val_main_v43_apply]
    unfold val_main_v40 val_main_v42
    rw [cast_zero, cast_zero, val_main_v39_apply, val_main_v41_apply,
      show idx_main_v39 (ix1 0) = ix1 1 from funext fun a => by match a with | ⟨0, _⟩ => rfl,
      show idx_main_v41 (ix1 0) = ix1 0 from funext fun a => by match a with | ⟨0, _⟩ => rfl, centre_ref, centre_ref]
    show centre 1 - centre 0 = _
    unfold centre
    rw [← EReal.coe_sub]
    congr 1
    norm_num
  rw [val_main_v45_apply, val_main_v44_apply, h43, val_main_cst_8_apply]
  show Ideal.div (Ideal.ofBits .f32 0xBF000000#32) (((12 / 49 : ℝ) : EReal) * ((12 / 49 : ℝ) : EReal)) = _
  rw [bits_neg_half, ← EReal.coe_mul, div_real _ _ (by norm_num)]
  congr 1
  norm_num

section
variable (x0 : Pos) (x3 : IVec S2x30720 32) (h : IsRing x3)
include h

theorem radial_ref (e : Fin 30720) (k : Fin 50) : val_main_v54 (F := Ideal) x0 x3 (ix2 e k) = radial (length3 (edgeAt x0 e.val)) k.val := by
  have h50 : val_main_v50 (F := Ideal) x0 x3 (ix2 e k) = length3 (edgeAt x0 e.val) - centre k.val := by
    rw [val_main_v50_apply, val_main_v48_apply, val_main_v46_apply, val_main_v49_apply, val_main_v47_apply,
      show idx_main_v46 (idx_main_v48 (ix2 e k)) = ix1 e from funext fun a => by match a with | ⟨0, _⟩ => rfl,
      show idx_main_v47 (idx_main_v49 (ix2 e k)) = ix1 k from funext fun a => by match a with | ⟨0, _⟩ => rfl, v32_ref x0 x3 h, centre_ref]
    rfl
  rw [val_main_v54_apply, val_main_v53_apply, val_main_v52_apply, val_main_v51_apply, h50, coeff_ref]
  rfl

variable (x6 : S50x1024.Idx → EReal) (x7 : S1024.Idx → EReal) (x8 : S1024x512.Idx → EReal) (x9 : S512.Idx → EReal) (x10 : S50x512.Idx → EReal)
  (x5 : S2x1x512.Idx → EReal)

theorem hidden_ref (e : Fin 30720) (j : Fin 1024) :
    val_main_v58 (F := Ideal) x0 x3 x6 x7 (ix2 e j) = hidden (fun k j => x6 (ix2 k j)) (fun j => x7 (ix1 j)) (length3 (edgeAt x0 e.val)) j := by
  have hk : ∀ k : Fin 50, val_main_v54 (F := Ideal) x0 x3 (lidx_main_v55 (ix2 e j) k) * x6 (ridx_main_v55 (ix2 e j) k)
      = radial (length3 (edgeAt x0 e.val)) k.val * x6 (ix2 k j) := fun k => by
    rw [show lidx_main_v55 (ix2 e j) k = ix2 e k from funext fun a => by match a with | ⟨0, _⟩ => rfl | ⟨1, _⟩ => rfl,
      show ridx_main_v55 (ix2 e j) k = ix2 k j from funext fun a => by match a with | ⟨0, _⟩ => rfl | ⟨1, _⟩ => rfl, radial_ref x0 x3 h]
  rw [val_main_v58_apply, val_main_v55_apply, Finset.sum_congr rfl fun k _ => hk k, val_main_v57_apply, val_main_v56_apply,
    show idx_main_v56 (idx_main_v57 (ix2 e j)) = ix1 j from funext fun a => by match a with | ⟨0, _⟩ => rfl]
  rfl

theorem gelu_ref (e : Fin 30720) (j : Fin 1024) :
    val_main_v71 (F := Ideal) x0 x3 x6 x7 (ix2 e j) = gelu (hidden (fun k j => x6 (ix2 k j)) (fun j => x7 (ix1 j)) (length3 (edgeAt x0 e.val)) j) := by
  rw [val_main_v71_apply, val_main_v70_apply, val_main_v69_apply, val_main_v68_apply, val_main_v67_apply, val_main_v66_apply, val_main_v65_apply,
    val_main_v64_apply, val_main_v63_apply, val_main_v62_apply, val_main_v61_apply, val_main_v60_apply, val_main_v59_apply, hidden_ref x0 x3 h]
  generalize hidden _ _ _ _ = y
  unfold gelu
  rw [mul_comm y (y * y)]
  rfl

theorem edgeToken_ref (e : Fin 30720) (c : Fin 512) :
    val_main_v83 (F := Ideal) x0 x3 x5 x6 x7 x8 x9 x10 (ix2 e c)
      = edgeToken (fun k j => x6 (ix2 k j)) (fun j => x7 (ix1 j)) (fun j c => x8 (ix2 j c)) (fun c => x9 (ix1 c)) (fun k c => x10 (ix2 k c))
          (fun c => x5 (ix3 1 0 c)) (length3 (edgeAt x0 e.val)) c := by
  have h72 : ∀ k : Fin 1024, val_main_v71 (F := Ideal) x0 x3 x6 x7 (lidx_main_v72 (ix2 e c) k) * x8 (ridx_main_v72 (ix2 e c) k)
      = gelu (hidden (fun k j => x6 (ix2 k j)) (fun j => x7 (ix1 j)) (length3 (edgeAt x0 e.val)) k) * x8 (ix2 k c) := fun k => by
    rw [show lidx_main_v72 (ix2 e c) k = ix2 e k from funext fun a => by match a with | ⟨0, _⟩ => rfl | ⟨1, _⟩ => rfl,
      show ridx_main_v72 (ix2 e c) k = ix2 k c from funext fun a => by match a with | ⟨0, _⟩ => rfl | ⟨1, _⟩ => rfl, gelu_ref x0 x3 h]
  have h76 : ∀ k : Fin 50, val_main_v54 (F := Ideal) x0 x3 (lidx_main_v76 (ix2 e c) k) * x10 (ridx_main_v76 (ix2 e c) k)
      = radial (length3 (edgeAt x0 e.val)) k.val * x10 (ix2 k c) := fun k => by
    rw [show lidx_main_v76 (ix2 e c) k = ix2 e k from funext fun a => by match a with | ⟨0, _⟩ => rfl | ⟨1, _⟩ => rfl,
      show ridx_main_v76 (ix2 e c) k = ix2 k c from funext fun a => by match a with | ⟨0, _⟩ => rfl | ⟨1, _⟩ => rfl, radial_ref x0 x3 h]
  have h80 : val_main_v80 (F := Ideal) x5 (ix2 e c) = x5 (ix3 1 0 c) := by
    rw [val_main_v80_apply, val_main_v79_apply, val_main_v78_apply]
    refine congrArg x5 (funext fun a => Fin.ext ?_)
    match a with
    | ⟨0, _⟩ => rfl
    | ⟨1, _⟩ => rfl
    | ⟨2, _⟩ => show (0 * 512 + c.val) % 512 = c.val; omega
  rw [val_main_v83_apply, val_main_v82_apply, val_main_v81_apply, h80, val_main_v77_apply, val_main_v76_apply, Finset.sum_congr rfl fun k _ => h76 k,
    val_main_v75_apply, val_main_v72_apply, Finset.sum_congr rfl fun k _ => h72 k, val_main_v74_apply, val_main_v73_apply,
    show idx_main_v73 (idx_main_v74 (ix2 e c)) = ix1 c from funext fun a => by match a with | ⟨0, _⟩ => rfl]
  rfl
end

section
variable (x2 : IVec S3840 32) (x4 : S100x512.Idx → EReal) (x5 : S2x1x512.Idx → EReal)

theorem nodeToken_ref (n : Fin 3840) (k : Fin 100) (hk : x2 (ix1 n) = BitVec.ofNat 32 k.val) (c : Fin 512) :
    val_main_v12 (F := Ideal) x2 x4 x5 (ix2 n c) = nodeToken (fun c => x4 (ix2 k c)) (fun c => x5 (ix3 0 0 c)) c := by
  have h6 : val_main_v6 (F := Ideal) x2 x4 (ix2 n c) = x4 (ix2 k c) :=
    Routing.gather_row _ rfl rfl rfl rfl rfl x4 _ n c k (by
      refine (val_main_v5_apply (F := Ideal) x2 _).trans ((congrArg (val_main_v4 (F := Ideal) x2) (show idx_main_v5 (ix2 n 0) = ix1 n from funext fun a => by match a with | ⟨0, _⟩ => rfl)).trans ?_)
      rw [val_main_v4_apply, val_main_v1_apply, val_main_v3_apply, hk, val_main_v0_apply]
      exact wrap_word _ (by omega) _) (by omega)
  have h9 : val_main_v9 (F := Ideal) x5 (ix2 n c) = x5 (ix3 0 0 c) := by
    rw [val_main_v9_apply, val_main_v8_apply, val_main_v7_apply]
    refine congrArg x5 (funext fun a => Fin.ext ?_)
    match a with
    | ⟨0, _⟩ => rfl
    | ⟨1, _⟩ => rfl
    | ⟨2, _⟩ => show (0 * 512 + c.val) % 512 = c.val; omega
  rw [val_main_v12_apply, val_main_v10_apply, h6, h9, val_main_v11_apply]
  rfl
end

section
variable (x0 : Pos) (x2 : IVec S3840 32) (x3 : IVec S2x30720 32) (x4 : S100x512.Idx → EReal) (x5 : S2x1x512.Idx → EReal) (x6 : S50x1024.Idx → EReal)
  (x7 : S1024.Idx → EReal) (x8 : S1024x512.Idx → EReal) (x9 : S512.Idx → EReal) (x10 : S50x512.Idx → EReal)

/-- The nodes' tokens come first. -/
theorem v84_node (i : Fin 34560) (n : Fin 3840) (hi : n.val = i.val) (k : Fin 100) (hk : x2 (ix1 n) = BitVec.ofNat 32 k.val) (c : Fin 512) :
    val_main_v84 (F := Ideal) x0 x2 x3 x4 x5 x6 x7 x8 x9 x10 (ix2 i c) = nodeToken (fun c => x4 (ix2 k c)) (fun c => x5 (ix3 0 0 c)) c := by
  unfold val_main_v84
  exact (join_first (N := 3840) (M := 30720) (C := 512) _ _ _ i n hi c).trans (nodeToken_ref x2 x4 x5 n k hk c)

/-- The edges' tokens follow. -/
theorem v84_edge (h : IsRing x3) (i : Fin 34560) (e : Fin 30720) (hi : e.val + 3840 = i.val) (c : Fin 512) :
    val_main_v84 (F := Ideal) x0 x2 x3 x4 x5 x6 x7 x8 x9 x10 (ix2 i c)
      = edgeToken (fun k j => x6 (ix2 k j)) (fun j => x7 (ix1 j)) (fun j c => x8 (ix2 j c)) (fun c => x9 (ix1 c)) (fun k c => x10 (ix2 k c))
          (fun c => x5 (ix3 1 0 c)) (length3 (edgeAt x0 e.val)) c := by
  unfold val_main_v84
  exact (join_second (N := 3840) (M := 30720) (C := 512) _ _ _ i e hi c).trans (edgeToken_ref x0 x3 h x6 x7 x8 x9 x10 x5 e c)
end

end Cert.Mol

end
-- ==== Proof.Sorts.lean ====
/-
  Stable sorts by a key that may repeat. If the positions listed by `f` have ascending keys, and equal keys only in the order of the
  positions themselves, then `f` is what the sort does.
-/
module

public import proofs.«01_k».proof.Proof.PreRead
public import Idealize.ShloMosaic.Lib.PlanTiles.StableSort
public import Idealize.ShloMosaic.Lib.SortFacts
public import Idealize.ShloMosaic.Lib.SortPrefix

@[expose] public section

set_option maxRecDepth 16384

noncomputable section

namespace Cert.Mol

open Idealize.ShloMosaic

theorem sorted_at {n : ℕ} (K : Fin n → ℕ) (f : Fin n → Fin n) (M : ℕ) (hM : ∀ a, K a < M)
    (hf : ∀ r s : Fin n, r < s → K (f r) < K (f s) ∨ (K (f r) = K (f s) ∧ f r < f s)) (r : Fin n) :
    sortedFrom (fun a b => decide (K a < K b)) r = f r := by
  have hb : (fun a b : Fin n => decide (K a < K b)) = fun a b => decide (M - K b < M - K a) := by
    funext a b
    have h1 := hM a
    have h2 := hM b
    exact decide_eq_decide.2 (by omega)
  let R : Fin n → Fin n → Prop := fun a b => K a < K b ∨ (K a = K b ∧ a < b)
  have hR : ∀ a b, R a b → R b a → a = b := fun a b h1 h2 => by
    rcases h1 with h1 | ⟨h1, h3⟩ <;> rcases h2 with h2 | ⟨h2, h4⟩ <;> omega
  have : Std.Antisymm R := ⟨hR⟩
  have h1 : (sortPositions n fun a b => decide (K a < K b)).Pairwise R := by
    rw [hb]
    refine (PlanTiles.pairwise_stableSort_lex (fun a : Fin n => M - K a) (· < ·) (List.finRange n) (List.pairwise_lt_finRange n)).imp ?_
    intro a b h
    have h1 := hM a
    have h2 := hM b
    rcases h with h | ⟨h, h3⟩
    · have h' : M - K b < M - K a := h
      exact Or.inl (by omega)
    · have h' : M - K a = M - K b := h
      exact Or.inr ⟨by omega, h3⟩
  have h2 : ((List.finRange n).map f).Pairwise R := by
    rw [List.pairwise_map]
    exact (List.pairwise_lt_finRange n).imp fun {a b} h => hf a b h
  have inj : Function.Injective f := fun a b h => by
    rcases lt_trichotomy a b with hl | hl | hl
    · rcases hf a b hl with h3 | ⟨_, h3⟩
      · rw [h] at h3; exact absurd h3 (lt_irrefl _)
      · rw [h] at h3; exact absurd h3 (lt_irrefl _)
    · exact hl
    · rcases hf b a hl with h3 | ⟨_, h3⟩
      · rw [h] at h3; exact absurd h3 (lt_irrefl _)
      · rw [h] at h3; exact absurd h3 (lt_irrefl _)
  have hp : ((List.finRange n).map f).Perm (List.finRange n) := by
    refine (List.perm_ext_iff_of_nodup ((List.nodup_finRange n).map inj) (List.nodup_finRange n)).2 fun a => ?_
    obtain ⟨b, hb⟩ := Finite.surjective_of_injective inj a
    exact ⟨fun _ => List.mem_finRange a, fun _ => List.mem_map.2 ⟨b, List.mem_finRange b, hb⟩⟩
  have e : sortPositions n (fun a b => decide (K a < K b)) = (List.finRange n).map f :=
    ((perm_sortPositions n _).trans hp.symm).eq_of_pairwise' h1 h2
  unfold sortedFrom
  rw [List.get_of_eq e]
  simp

/-- A signed comparison of two small words. -/
theorem slt_word (a b : ℕ) (ha : a < 2 ^ 31) (hb : b < 2 ^ 31) : IntOp.cmpi .slt (BitVec.ofNat 32 a) (BitVec.ofNat 32 b) = BitVec.ofBool (decide (a < b)) := by
  show BitVec.ofBool _ = _
  refine congrArg _ ?_
  rw [BitVec.slt_eq_decide, StableHlo.Predicate.toInt_ofNat_small a ha, StableHlo.Predicate.toInt_ofNat_small b hb]
  exact decide_eq_decide.2 Nat.cast_lt

theorem eq_word (a b : ℕ) (ha : a < 2 ^ 31) (hb : b < 2 ^ 31) : IntOp.cmpi .eq (BitVec.ofNat 32 a) (BitVec.ofNat 32 b) = BitVec.ofBool (decide (a = b)) := by
  by_cases h : a = b
  · subst h
    rw [IntOp.cmpi_eq_self]
    simp
  · have hn : ¬ IntOp.cmpi .eq (BitVec.ofNat 32 a) (BitVec.ofNat 32 b) = 1#1 := by
      rw [IntOp.cmpi_eq]
      intro hw
      have := congrArg BitVec.toNat hw
      rw [BitVec.toNat_ofNat, BitVec.toNat_ofNat] at this
      omega
    rw [decide_eq_false h]
    revert hn
    generalize IntOp.cmpi .eq (BitVec.ofNat 32 a) (BitVec.ofNat 32 b) = w
    revert w
    decide

/-- The positions in the order of one key. -/
theorem argsort_read {n : ℕ} (x : IVec ⟨1, ![n]⟩ 32) (cmp : BitVec 32 × BitVec 32 → BitVec 32 × BitVec 32 → BitVec 1)
    (hcmp : ∀ l r, cmp l r = IntOp.cmpi .slt l.1 r.1) (y : IVec ⟨1, ![n]⟩ 32) (hy : ∀ a : Fin n, y (ix1 a) = BitVec.ofNat 32 a.val)
    (K : Fin n → ℕ) (hK : ∀ a, x (ix1 a) = BitVec.ofNat 32 (K a)) (hM : ∀ a, K a < 2 ^ 31) (f : Fin n → Fin n)
    (hf : ∀ r s : Fin n, r < s → K (f r) < K (f s) ∨ (K (f r) = K (f s) ∧ f r < f s)) (r : Fin n) :
    (Host.sort2 ⟨1, ![n]⟩ 0 cmp x y).2 (ix1 r) = BitVec.ofNat 32 (f r).val := by
  have e : ∀ c : Fin n, (ix1 r : (⟨1, ![n]⟩ : Shape).Idx).along (0 : Fin 1) c = ix1 c := fun c => by
    funext a
    match a with
    | ⟨0, _⟩ => rfl
  have hb : (fun a b : Fin n => cmp (x ((ix1 r : (⟨1, ![n]⟩ : Shape).Idx).along (0 : Fin 1) a), y ((ix1 r : (⟨1, ![n]⟩ : Shape).Idx).along (0 : Fin 1) a))
      (x ((ix1 r : (⟨1, ![n]⟩ : Shape).Idx).along (0 : Fin 1) b), y ((ix1 r : (⟨1, ![n]⟩ : Shape).Idx).along (0 : Fin 1) b)) == 1#1) = fun a b => decide (K a < K b) := by
    funext a b
    rw [e a, e b, hcmp, hK, hK, slt_word _ _ (hM a) (hM b)]
    cases decide (K a < K b) <;> rfl
  have hs : sortedFrom (n := n) (fun a b : Fin n => cmp (x ((ix1 r : (⟨1, ![n]⟩ : Shape).Idx).along (0 : Fin 1) a), y ((ix1 r : (⟨1, ![n]⟩ : Shape).Idx).along (0 : Fin 1) a))
      (x ((ix1 r : (⟨1, ![n]⟩ : Shape).Idx).along (0 : Fin 1) b), y ((ix1 r : (⟨1, ![n]⟩ : Shape).Idx).along (0 : Fin 1) b)) == 1#1) r = f r :=
    (congrArg (fun b => sortedFrom (n := n) b r) hb).trans (sorted_at K f _ hM hf r)
  exact (congrArg (fun c : Fin n => y ((ix1 r : (⟨1, ![n]⟩ : Shape).Idx).along (0 : Fin 1) c)) hs).trans ((congrArg y (e _)).trans (hy _))

/-- The positions in the order of two keys. -/
theorem lexsort_read {n : ℕ} (x y : IVec ⟨1, ![n]⟩ 32) (cmp : BitVec 32 × BitVec 32 × BitVec 32 → BitVec 32 × BitVec 32 × BitVec 32 → BitVec 1)
    (hcmp : ∀ l r, cmp l r = IntOp.ori (IntOp.cmpi .slt l.1 r.1) (IntOp.andi (IntOp.cmpi .eq l.1 r.1) (IntOp.cmpi .slt l.2.1 r.2.1)))
    (z : IVec ⟨1, ![n]⟩ 32) (hz : ∀ a : Fin n, z (ix1 a) = BitVec.ofNat 32 a.val)
    (K L : Fin n → ℕ) (hK : ∀ a, x (ix1 a) = BitVec.ofNat 32 (K a)) (hL : ∀ a, y (ix1 a) = BitVec.ofNat 32 (L a))
    (hM : ∀ a, K a < 65536) (hN : ∀ a, L a < 65536) (f : Fin n → Fin n)
    (hf : ∀ r s : Fin n, r < s → K (f r) < K (f s) ∨ (K (f r) = K (f s) ∧ L (f r) < L (f s))) (r : Fin n) :
    (Host.sort3 ⟨1, ![n]⟩ 0 cmp x y z).2.2 (ix1 r) = BitVec.ofNat 32 (f r).val := by
  have e : ∀ c : Fin n, (ix1 r : (⟨1, ![n]⟩ : Shape).Idx).along (0 : Fin 1) c = ix1 c := fun c => by
    funext a
    match a with
    | ⟨0, _⟩ => rfl
  have hb : (fun a b : Fin n => cmp (x ((ix1 r : (⟨1, ![n]⟩ : Shape).Idx).along (0 : Fin 1) a), y ((ix1 r : (⟨1, ![n]⟩ : Shape).Idx).along (0 : Fin 1) a), z ((ix1 r : (⟨1, ![n]⟩ : Shape).Idx).along (0 : Fin 1) a))
      (x ((ix1 r : (⟨1, ![n]⟩ : Shape).Idx).along (0 : Fin 1) b), y ((ix1 r : (⟨1, ![n]⟩ : Shape).Idx).along (0 : Fin 1) b), z ((ix1 r : (⟨1, ![n]⟩ : Shape).Idx).along (0 : Fin 1) b)) == 1#1)
        = fun a b => decide (65536 * K a + L a < 65536 * K b + L b) := by
    funext a b
    have h1 := hM a
    have h2 := hM b
    have h3 := hN a
    have h4 := hN b
    rw [e a, e b, hcmp, hK, hK, hL, hL, slt_word _ _ (by omega) (by omega), slt_word _ _ (by omega) (by omega), eq_word _ _ (by omega) (by omega)]
    by_cases c1 : K a < K b
    · rw [decide_eq_true c1, decide_eq_true (show 65536 * K a + L a < 65536 * K b + L b by omega), decide_eq_false (show ¬ K a = K b by omega)]
      cases decide (L a < L b) <;> rfl
    · by_cases c2 : K a = K b
      · by_cases c3 : L a < L b
        · rw [decide_eq_false c1, decide_eq_true c2, decide_eq_true c3, decide_eq_true (show 65536 * K a + L a < 65536 * K b + L b by omega)]
          rfl
        · rw [decide_eq_false c1, decide_eq_true c2, decide_eq_false c3, decide_eq_false (show ¬ 65536 * K a + L a < 65536 * K b + L b by omega)]
          rfl
      · rw [decide_eq_false c1, decide_eq_false c2, decide_eq_false (show ¬ 65536 * K a + L a < 65536 * K b + L b by omega)]
        cases decide (L a < L b) <;> rfl
  have hs : sortedFrom (n := n) (fun a b : Fin n => cmp (x ((ix1 r : (⟨1, ![n]⟩ : Shape).Idx).along (0 : Fin 1) a), y ((ix1 r : (⟨1, ![n]⟩ : Shape).Idx).along (0 : Fin 1) a), z ((ix1 r : (⟨1, ![n]⟩ : Shape).Idx).along (0 : Fin 1) a))
      (x ((ix1 r : (⟨1, ![n]⟩ : Shape).Idx).along (0 : Fin 1) b), y ((ix1 r : (⟨1, ![n]⟩ : Shape).Idx).along (0 : Fin 1) b), z ((ix1 r : (⟨1, ![n]⟩ : Shape).Idx).along (0 : Fin 1) b)) == 1#1) r = f r := by
    refine (congrArg (fun b => sortedFrom (n := n) b r) hb).trans
      (sorted_at (fun a => 65536 * K a + L a) f (65536 * 65536) (fun a => by have h1 := hM a; have h3 := hN a; show 65536 * K a + L a < _; omega) (fun r s hrs => ?_) r)
    have h3 := hN (f r)
    have h4 := hN (f s)
    refine Or.inl ?_
    show 65536 * K (f r) + L (f r) < 65536 * K (f s) + L (f s)
    rcases hf r s hrs with h | ⟨h, h'⟩ <;> omega
  exact (congrArg (fun c : Fin n => z ((ix1 r : (⟨1, ![n]⟩ : Shape).Idx).along (0 : Fin 1) c)) hs).trans ((congrArg z (e _)).trans (hz _))

end Cert.Mol

end
-- ==== Proof.RefPairs.lean ====
/- The reference's two sorts of the edges by an atom, and the tables of edge pairs they give. -/
module

public import proofs.«01_k».proof.Proof.RefGeo
public import proofs.«01_k».proof.Proof.GeoValue
public import proofs.«01_k».proof.Proof.Sorts
public import proofs.«01_k».proof.Proof.Stack

@[expose] public section

set_option maxRecDepth 16384

noncomputable section

namespace Cert.Mol

open Cert.ReferenceIdeal Cert.ReferenceIdeal.Gen Cert.ReferenceIdeal.Read Idealize.ShloMosaic Idealize.ShloMosaic.TcCoe

theorem placeOf_lt' (n j : ℕ) (hj : j < 8) : placeOf (n % 30) j < 8 := placeOf_lt ⟨n % 30, by omega⟩ ⟨j, hj⟩

theorem placeOf_twice (n j : ℕ) (hj : j < 8) : placeOf (n % 30) (placeOf (n % 30) j) = j := by
  have h := placeOf_lt' n j hj
  exact (placeOf_invol ⟨n % 30, by omega⟩ ⟨placeOf (n % 30) j, h⟩ ⟨j, hj⟩).2 rfl

theorem intoOf_lt {n j : ℕ} (hn : n < 3840) (hj : j < 8) : intoOf n j < 30720 := by
  have h := placeOf_lt' n j hj
  unfold intoOf
  omega

theorem dst_into {n j : ℕ} (hj : j < 8) : dstOf (intoOf n j) = n := by
  have h := placeOf_lt' n j hj
  unfold intoOf dstOf
  generalize placeOf (n % 30) j = k at h
  omega

theorem local_mono : ∀ (b : Fin 30) (j j' : Fin 8), j < j' →
    8 * ((b.val + 29 - placeOf b.val j.val) % 30) + placeOf b.val j.val < 8 * ((b.val + 29 - placeOf b.val j'.val) % 30) + placeOf b.val j'.val := by
  decide +kernel

theorem into_mono {n j j' : ℕ} (h : j < j') (hj : j' < 8) : intoOf n j < intoOf n j' := by
  have := local_mono ⟨n % 30, by omega⟩ ⟨j, by omega⟩ ⟨j', hj⟩ h
  unfold intoOf
  simp only at this
  omega

/-- The place of an edge among the edges into the atom it runs to. -/
def rankOf (e : ℕ) : ℕ := placeOf (dstOf e % 30) (e % 8)

theorem rankOf_lt (e : ℕ) : rankOf e < 8 := placeOf_lt' _ _ (by omega)

theorem into_rank (e : ℕ) : intoOf (dstOf e) (rankOf e) = e := by
  unfold intoOf rankOf
  rw [placeOf_twice _ _ (by omega)]
  unfold dstOf
  omega

theorem src_eq (e : ℕ) : srcOf e = e / 8 := by unfold srcOf; omega

theorem row_pick (r : Fin 2) {a b : ℕ} : (if r = 0 then BitVec.ofNat 32 a else BitVec.ofNat 32 b) = BitVec.ofNat 32 (if r = 0 then a else b) := by
  split <;> rfl

theorem v127_ref (e : Fin 30720) : val_main_v127 (F := Ideal) (ix1 e) = BitVec.ofNat 32 (3840 + e.val) := by
  rw [val_main_v127_apply, val_main_v126_apply, val_main_v125_apply]
  exact add_word 3840 e.val

theorem place_parts (p : ℕ) : (64 * dstOf (p / 8) + 8 * rankOf (p / 8) + p % 8) / 64 = dstOf (p / 8) := by
  have := rankOf_lt (p / 8)
  omega

theorem place_rank (p : ℕ) : (64 * dstOf (p / 8) + 8 * rankOf (p / 8) + p % 8) / 8 % 8 = rankOf (p / 8) := by
  have := rankOf_lt (p / 8)
  omega

theorem place_last (p : ℕ) : (64 * dstOf (p / 8) + 8 * rankOf (p / 8) + p % 8) % 8 = p % 8 := by
  omega

theorem less_word (a : ℕ) (ha : a < 30720) : IntOp.subi (BitVec.ofNat 32 (3840 + a)) 3840#32 = BitVec.ofNat 32 a := by
  apply BitVec.eq_of_toNat_eq
  show (BitVec.ofNat 32 (3840 + a) - 3840#32).toNat = _
  rw [BitVec.toNat_sub, BitVec.toNat_ofNat, BitVec.toNat_ofNat, BitVec.toNat_ofNat]
  omega

section
variable (x0 : Pos) (x3 : IVec S2x30720 32) (h : IsRing x3)
include h

/-! ### Pairs of edges by the atom they run to -/

theorem v139_ref (e : Fin 30720) : val_main_v139 (F := Ideal) x3 (ix1 e) = BitVec.ofNat 32 (dstOf e.val) := by
  rw [val_main_v139_apply, val_main_v138_apply, ← h.dst e]
  refine congrArg x3 (funext fun a => Fin.ext ?_)
  match a with
  | ⟨0, _⟩ => rfl
  | ⟨1, _⟩ => exact Nat.mod_eq_of_lt e.isLt

theorem v140_ref (r : Fin 30720) : val_main_v140 (F := Ideal) x3 (ix1 r) = BitVec.ofNat 32 (intoOf (r.val / 8) (r.val % 8)) := by
  have hl : ∀ r : Fin 30720, intoOf (r.val / 8) (r.val % 8) < 30720 := fun r => intoOf_lt (by omega) (by omega)
  refine argsort_read (n := 30720) (val_main_v139 (F := Ideal) x3) comparator_i32_i32_d0 (fun _ _ => rfl) (val_main_call3_v0 (F := Ideal)) (fun _ => rfl)
    (fun e => dstOf e.val) (v139_ref x3 h) (fun e => by have := dstOf_lt e.isLt; omega) (fun r => ⟨intoOf (r.val / 8) (r.val % 8), hl r⟩) (fun r s hrs => ?_) r
  have hrs' : r.val < s.val := hrs
  show dstOf (intoOf (r.val / 8) (r.val % 8)) < dstOf (intoOf (s.val / 8) (s.val % 8)) ∨ (dstOf (intoOf (r.val / 8) (r.val % 8)) = dstOf (intoOf (s.val / 8) (s.val % 8)) ∧ intoOf (r.val / 8) (r.val % 8) < intoOf (s.val / 8) (s.val % 8))
  rw [dst_into (by omega), dst_into (by omega)]
  by_cases hq : r.val / 8 = s.val / 8
  · rw [hq]
    exact Or.inr ⟨rfl, into_mono (by omega) (by omega)⟩
  · exact Or.inl (by omega)

theorem v147_ref (r : Fin 30720) : val_main_v147 (F := Ideal) x3 (ix1 r) = BitVec.ofNat 32 (3840 + intoOf (r.val / 8) (r.val % 8)) := by
  have hl : intoOf (r.val / 8) (r.val % 8) < 30720 := intoOf_lt (by omega) (by omega)
  refine (Routing.gather_take1 _ rfl rfl rfl rfl (val_main_v127 (F := Ideal)) _ r (⟨intoOf (r.val / 8) (r.val % 8), hl⟩ : Fin 30720) ?_ (by omega)).trans (v127_ref _)
  refine (val_main_v146_apply (F := Ideal) x3 _).trans ((congrArg (val_main_v145 (F := Ideal) x3) (show idx_main_v146 (ix2 r 0) = ix1 r from funext fun a => by match a with | ⟨0, _⟩ => rfl)).trans ?_)
  rw [val_main_v145_apply, val_main_v142_apply, val_main_v144_apply, v140_ref x3 h r, val_main_v141_apply]
  exact wrap_word _ (by omega) _

theorem v151_ref (q : Fin 245760) : val_main_v151 (F := Ideal) x3 (ix1 q) = BitVec.ofNat 32 (3840 + intoOf (q.val / 64) (q.val / 8 % 8)) := by
  rw [val_main_v151_apply, val_main_v150_apply, val_main_v149_apply, val_main_v148_apply]
  refine (congrArg (val_main_v147 (F := Ideal) x3) (show _ = ix1 (⟨q.val / 64 * 8 + q.val / 8 % 8, by omega⟩ : Fin 30720) from funext fun a => by match a with | ⟨0, _⟩ => rfl)).trans
    ((v147_ref x3 h _).trans (congrArg _ ?_))
  have g1 : (q.val / 64 * 8 + q.val / 8 % 8) / 8 = q.val / 64 := by omega
  have g2 : (q.val / 64 * 8 + q.val / 8 % 8) % 8 = q.val / 8 % 8 := by omega
  show 3840 + intoOf ((q.val / 64 * 8 + q.val / 8 % 8) / 8) ((q.val / 64 * 8 + q.val / 8 % 8) % 8) = _
  rw [g1, g2]

theorem v154_ref (q : Fin 245760) : val_main_v154 (F := Ideal) x3 (ix1 q) = BitVec.ofNat 32 (3840 + intoOf (q.val / 64) (q.val % 8)) := by
  rw [val_main_v154_apply, val_main_v153_apply, val_main_v152_apply, val_main_v148_apply]
  refine (congrArg (val_main_v147 (F := Ideal) x3) (show _ = ix1 (⟨q.val / 64 * 8 + q.val % 8, by omega⟩ : Fin 30720) from funext fun a => by match a with | ⟨0, _⟩ => rfl)).trans
    ((v147_ref x3 h _).trans (congrArg _ ?_))
  have g1 : (q.val / 64 * 8 + q.val % 8) / 8 = q.val / 64 := by omega
  have g2 : (q.val / 64 * 8 + q.val % 8) % 8 = q.val % 8 := by omega
  show 3840 + intoOf ((q.val / 64 * 8 + q.val % 8) / 8) ((q.val / 64 * 8 + q.val % 8) % 8) = _
  rw [g1, g2]

theorem v155_ref (p : Fin 245760) : val_main_v155 (F := Ideal) x3 (ix1 p) = BitVec.ofNat 32 (64 * dstOf (p.val / 8) + 8 * rankOf (p.val / 8) + p.val % 8) := by
  have hl : ∀ p : Fin 245760, 64 * dstOf (p.val / 8) + 8 * rankOf (p.val / 8) + p.val % 8 < 245760 := fun p => by
    have h1 := rankOf_lt (p.val / 8)
    have h2 : dstOf (p.val / 8) < 3840 := dstOf_lt (by omega)
    omega
  refine lexsort_read (n := 245760) (val_main_v151 (F := Ideal) x3) (val_main_v154 (F := Ideal) x3) comparator_i32_i32_i32_d0 (fun _ _ => rfl)
    (val_main_call4_v0 (F := Ideal)) (fun _ => rfl) (fun q => 3840 + intoOf (q.val / 64) (q.val / 8 % 8)) (fun q => 3840 + intoOf (q.val / 64) (q.val % 8))
    (v151_ref x3 h) (v154_ref x3 h)
    (fun q => by have : intoOf (q.val / 64) (q.val / 8 % 8) < 30720 := intoOf_lt (by omega) (by omega); show 3840 + intoOf (q.val / 64) (q.val / 8 % 8) < _; omega)
    (fun q => by have : intoOf (q.val / 64) (q.val % 8) < 30720 := intoOf_lt (by omega) (by omega); show 3840 + intoOf (q.val / 64) (q.val % 8) < _; omega)
    (fun p => ⟨64 * dstOf (p.val / 8) + 8 * rankOf (p.val / 8) + p.val % 8, hl p⟩) (fun r s hrs => ?_) p
  have hrs' : r.val < s.val := hrs
  show 3840 + intoOf ((64 * dstOf (r.val / 8) + 8 * rankOf (r.val / 8) + r.val % 8) / 64) ((64 * dstOf (r.val / 8) + 8 * rankOf (r.val / 8) + r.val % 8) / 8 % 8)
      < 3840 + intoOf ((64 * dstOf (s.val / 8) + 8 * rankOf (s.val / 8) + s.val % 8) / 64) ((64 * dstOf (s.val / 8) + 8 * rankOf (s.val / 8) + s.val % 8) / 8 % 8)
    ∨ 3840 + intoOf ((64 * dstOf (r.val / 8) + 8 * rankOf (r.val / 8) + r.val % 8) / 64) ((64 * dstOf (r.val / 8) + 8 * rankOf (r.val / 8) + r.val % 8) / 8 % 8)
      = 3840 + intoOf ((64 * dstOf (s.val / 8) + 8 * rankOf (s.val / 8) + s.val % 8) / 64) ((64 * dstOf (s.val / 8) + 8 * rankOf (s.val / 8) + s.val % 8) / 8 % 8)
      ∧ 3840 + intoOf ((64 * dstOf (r.val / 8) + 8 * rankOf (r.val / 8) + r.val % 8) / 64) ((64 * dstOf (r.val / 8) + 8 * rankOf (r.val / 8) + r.val % 8) % 8)
      < 3840 + intoOf ((64 * dstOf (s.val / 8) + 8 * rankOf (s.val / 8) + s.val % 8) / 64) ((64 * dstOf (s.val / 8) + 8 * rankOf (s.val / 8) + s.val % 8) % 8)
  rw [place_parts r.val, place_rank r.val, place_last r.val, place_parts s.val, place_rank s.val, place_last s.val, into_rank, into_rank]
  by_cases hq : r.val / 8 = s.val / 8
  · refine Or.inr ⟨by rw [hq], ?_⟩
    rw [hq]
    have := into_mono (n := dstOf (s.val / 8)) (show r.val % 8 < s.val % 8 by omega) (by omega)
    omega
  · exact Or.inl (by omega)

theorem v162_ref (p : Fin 245760) : val_main_v162 (F := Ideal) x3 (ix1 p) = BitVec.ofNat 32 (3840 + p.val / 8) := by
  have hl : 64 * dstOf (p.val / 8) + 8 * rankOf (p.val / 8) + p.val % 8 < 245760 := by
    have h1 := rankOf_lt (p.val / 8)
    have h2 : dstOf (p.val / 8) < 3840 := dstOf_lt (by omega)
    omega
  refine (Routing.gather_take1 _ rfl rfl rfl rfl (val_main_v151 (F := Ideal) x3) _ p (⟨64 * dstOf (p.val / 8) + 8 * rankOf (p.val / 8) + p.val % 8, hl⟩ : Fin 245760) ?_ (by omega)).trans ((v151_ref x3 h _).trans (congrArg _ ?_))
  · refine (val_main_v161_apply (F := Ideal) x3 _).trans ((congrArg (val_main_v160 (F := Ideal) x3) (show idx_main_v161 (ix2 p 0) = ix1 p from funext fun a => by match a with | ⟨0, _⟩ => rfl)).trans ?_)
    rw [val_main_v160_apply, val_main_v157_apply, val_main_v159_apply, v155_ref x3 h p, val_main_v156_apply]
    exact wrap_word _ (by omega) _
  · show 3840 + intoOf ((64 * dstOf (p.val / 8) + 8 * rankOf (p.val / 8) + p.val % 8) / 64) ((64 * dstOf (p.val / 8) + 8 * rankOf (p.val / 8) + p.val % 8) / 8 % 8) = _
    rw [place_parts, place_rank, into_rank]

theorem v169_ref (p : Fin 245760) : val_main_v169 (F := Ideal) x3 (ix1 p) = BitVec.ofNat 32 (3840 + intoOf (dstOf (p.val / 8)) (p.val % 8)) := by
  have hl : 64 * dstOf (p.val / 8) + 8 * rankOf (p.val / 8) + p.val % 8 < 245760 := by
    have h1 := rankOf_lt (p.val / 8)
    have h2 : dstOf (p.val / 8) < 3840 := dstOf_lt (by omega)
    omega
  refine (Routing.gather_take1 _ rfl rfl rfl rfl (val_main_v154 (F := Ideal) x3) _ p (⟨64 * dstOf (p.val / 8) + 8 * rankOf (p.val / 8) + p.val % 8, hl⟩ : Fin 245760) ?_ (by omega)).trans ((v154_ref x3 h _).trans (congrArg _ ?_))
  · refine (val_main_v168_apply (F := Ideal) x3 _).trans ((congrArg (val_main_v167 (F := Ideal) x3) (show idx_main_v168 (ix2 p 0) = ix1 p from funext fun a => by match a with | ⟨0, _⟩ => rfl)).trans ?_)
    rw [val_main_v167_apply, val_main_v164_apply, val_main_v166_apply, v155_ref x3 h p, val_main_v163_apply]
    exact wrap_word _ (by omega) _
  · show 3840 + intoOf ((64 * dstOf (p.val / 8) + 8 * rankOf (p.val / 8) + p.val % 8) / 64) ((64 * dstOf (p.val / 8) + 8 * rankOf (p.val / 8) + p.val % 8) % 8) = _
    rw [place_parts, place_last]

theorem v172_ref (r : Fin 2) (p : Fin 245760) :
    val_main_v172 (F := Ideal) x3 (ix2 r p) = BitVec.ofNat 32 (if r = 0 then 3840 + p.val / 8 else 3840 + intoOf (dstOf (p.val / 8)) (p.val % 8)) := by
  refine (pair_words 245760 (val_main_v162 (F := Ideal) x3) (val_main_v169 (F := Ideal) x3) _ _ r p (by omega)).trans ?_
  rw [v162_ref x3 h p, v169_ref x3 h p]
  exact row_pick r

/-! ### Pairs of edges by the atom they start from -/

theorem v174_ref (e : Fin 30720) : val_main_v174 (F := Ideal) x3 (ix1 e) = BitVec.ofNat 32 (srcOf e.val) := by
  rw [val_main_v174_apply, val_main_v173_apply, ← h.src e]
  refine congrArg x3 (funext fun a => Fin.ext ?_)
  match a with
  | ⟨0, _⟩ => rfl
  | ⟨1, _⟩ => exact Nat.mod_eq_of_lt e.isLt

theorem v175_ref (r : Fin 30720) : val_main_v175 (F := Ideal) x3 (ix1 r) = BitVec.ofNat 32 (r.val) := by
  have hl : ∀ r : Fin 30720, r.val < 30720 := fun r => r.isLt
  refine argsort_read (n := 30720) (val_main_v174 (F := Ideal) x3) comparator_i32_i32_d0 (fun _ _ => rfl) (val_main_call5_v0 (F := Ideal)) (fun _ => rfl)
    (fun e => srcOf e.val) (v174_ref x3 h) (fun e => by have := srcOf_lt e.isLt; omega) (fun r => ⟨r.val, hl r⟩) (fun r s hrs => ?_) r
  have hrs' : r.val < s.val := hrs
  show srcOf (r.val) < srcOf (s.val) ∨ (srcOf (r.val) = srcOf (s.val) ∧ r.val < s.val)
  rw [src_eq, src_eq]
  by_cases hq : r.val / 8 = s.val / 8
  · exact Or.inr ⟨hq, hrs'⟩
  · exact Or.inl (by omega)

theorem v182_ref (r : Fin 30720) : val_main_v182 (F := Ideal) x3 (ix1 r) = BitVec.ofNat 32 (3840 + r.val) := by
  have hl : r.val < 30720 := r.isLt
  refine (Routing.gather_take1 _ rfl rfl rfl rfl (val_main_v127 (F := Ideal)) _ r (⟨r.val, hl⟩ : Fin 30720) ?_ (by omega)).trans (v127_ref _)
  refine (val_main_v181_apply (F := Ideal) x3 _).trans ((congrArg (val_main_v180 (F := Ideal) x3) (show idx_main_v181 (ix2 r 0) = ix1 r from funext fun a => by match a with | ⟨0, _⟩ => rfl)).trans ?_)
  rw [val_main_v180_apply, val_main_v177_apply, val_main_v179_apply, v175_ref x3 h r, val_main_v176_apply]
  exact wrap_word _ (by omega) _

theorem v186_ref (q : Fin 245760) : val_main_v186 (F := Ideal) x3 (ix1 q) = BitVec.ofNat 32 (3840 + q.val / 8) := by
  rw [val_main_v186_apply, val_main_v185_apply, val_main_v184_apply, val_main_v183_apply]
  refine (congrArg (val_main_v182 (F := Ideal) x3) (show _ = ix1 (⟨q.val / 64 * 8 + q.val / 8 % 8, by omega⟩ : Fin 30720) from funext fun a => by match a with | ⟨0, _⟩ => rfl)).trans
    ((v182_ref x3 h _).trans (congrArg _ ?_))
  show 3840 + (q.val / 64 * 8 + q.val / 8 % 8) = _
  omega

theorem v189_ref (q : Fin 245760) : val_main_v189 (F := Ideal) x3 (ix1 q) = BitVec.ofNat 32 (3840 + (8 * (q.val / 64) + q.val % 8)) := by
  rw [val_main_v189_apply, val_main_v188_apply, val_main_v187_apply, val_main_v183_apply]
  refine (congrArg (val_main_v182 (F := Ideal) x3) (show _ = ix1 (⟨q.val / 64 * 8 + q.val % 8, by omega⟩ : Fin 30720) from funext fun a => by match a with | ⟨0, _⟩ => rfl)).trans
    ((v182_ref x3 h _).trans (congrArg _ ?_))
  show 3840 + (q.val / 64 * 8 + q.val % 8) = _
  omega

theorem v190_ref (p : Fin 245760) : val_main_v190 (F := Ideal) x3 (ix1 p) = BitVec.ofNat 32 (p.val) := by
  refine lexsort_read (n := 245760) (val_main_v186 (F := Ideal) x3) (val_main_v189 (F := Ideal) x3) comparator_i32_i32_i32_d0 (fun _ _ => rfl)
    (val_main_call6_v0 (F := Ideal)) (fun _ => rfl) (fun q => 3840 + q.val / 8) (fun q => 3840 + (8 * (q.val / 64) + q.val % 8))
    (v186_ref x3 h) (v189_ref x3 h) (fun q => by show 3840 + q.val / 8 < _; omega) (fun q => by show 3840 + (8 * (q.val / 64) + q.val % 8) < _; omega)
    (fun p => p) (fun r s hrs => ?_) p
  have hrs' : r.val < s.val := hrs
  show 3840 + r.val / 8 < 3840 + s.val / 8
    ∨ 3840 + r.val / 8 = 3840 + s.val / 8 ∧ 3840 + (8 * (r.val / 64) + r.val % 8) < 3840 + (8 * (s.val / 64) + s.val % 8)
  omega

theorem v197_ref (p : Fin 245760) : val_main_v197 (F := Ideal) x3 (ix1 p) = BitVec.ofNat 32 (3840 + p.val / 8) := by
  have hl : p.val < 245760 := p.isLt
  refine (Routing.gather_take1 _ rfl rfl rfl rfl (val_main_v186 (F := Ideal) x3) _ p (⟨p.val, hl⟩ : Fin 245760) ?_ (by omega)).trans ((v186_ref x3 h _).trans (congrArg _ ?_))
  · refine (val_main_v196_apply (F := Ideal) x3 _).trans ((congrArg (val_main_v195 (F := Ideal) x3) (show idx_main_v196 (ix2 p 0) = ix1 p from funext fun a => by match a with | ⟨0, _⟩ => rfl)).trans ?_)
    rw [val_main_v195_apply, val_main_v192_apply, val_main_v194_apply, v190_ref x3 h p, val_main_v191_apply]
    exact wrap_word _ (by omega) _
  · rfl

theorem v204_ref (p : Fin 245760) : val_main_v204 (F := Ideal) x3 (ix1 p) = BitVec.ofNat 32 (3840 + (8 * (p.val / 64) + p.val % 8)) := by
  have hl : p.val < 245760 := p.isLt
  refine (Routing.gather_take1 _ rfl rfl rfl rfl (val_main_v189 (F := Ideal) x3) _ p (⟨p.val, hl⟩ : Fin 245760) ?_ (by omega)).trans ((v189_ref x3 h _).trans (congrArg _ ?_))
  · refine (val_main_v203_apply (F := Ideal) x3 _).trans ((congrArg (val_main_v202 (F := Ideal) x3) (show idx_main_v203 (ix2 p 0) = ix1 p from funext fun a => by match a with | ⟨0, _⟩ => rfl)).trans ?_)
    rw [val_main_v202_apply, val_main_v199_apply, val_main_v201_apply, v190_ref x3 h p, val_main_v198_apply]
    exact wrap_word _ (by omega) _
  · rfl

theorem v207_ref (r : Fin 2) (p : Fin 245760) :
    val_main_v207 (F := Ideal) x3 (ix2 r p) = BitVec.ofNat 32 (if r = 0 then 3840 + p.val / 8 else 3840 + (8 * (p.val / 64) + p.val % 8)) := by
  refine (pair_words 245760 (val_main_v197 (F := Ideal) x3) (val_main_v204 (F := Ideal) x3) _ _ r p (by omega)).trans ?_
  rw [v197_ref x3 h p, v204_ref x3 h p]
  exact row_pick r

theorem v232_ref (p : Fin 245760) : val_main_v232 (F := Ideal) x0 x3 (ix1 p) = cosAt2 x0 (p.val / 8) (intoOf (dstOf (p.val / 8)) (p.val % 8)) := by
  have hl : intoOf (dstOf (p.val / 8)) (p.val % 8) < 30720 := intoOf_lt (dstOf_lt (by omega)) (by omega)
  have w1 : val_main_v212 (F := Ideal) x3 (ix1 p) = BitVec.ofNat 32 (p.val / 8) := by
    rw [val_main_v212_apply, val_main_v210_apply, val_main_v209_apply, val_main_v211_apply]
    refine (congrArg (fun w => IntOp.subi w _) ((congrArg (val_main_v172 (F := Ideal) x3) (show _ = ix2 (0 : Fin 2) p from funext fun a => Fin.ext (by match a with | ⟨0, _⟩ => rfl | ⟨1, _⟩ => exact (Nat.mod_eq_of_lt p.isLt)))).trans (v172_ref x3 h 0 p))).trans ?_
    exact less_word (p.val / 8) (by omega)
  have w2 : val_main_v223 (F := Ideal) x3 (ix1 p) = BitVec.ofNat 32 (intoOf (dstOf (p.val / 8)) (p.val % 8)) := by
    rw [val_main_v223_apply, val_main_v221_apply, val_main_v220_apply, val_main_v222_apply]
    refine (congrArg (fun w => IntOp.subi w _) ((congrArg (val_main_v172 (F := Ideal) x3) (show _ = ix2 (1 : Fin 2) p from funext fun a => Fin.ext (by match a with | ⟨0, _⟩ => rfl | ⟨1, _⟩ => exact (Nat.mod_eq_of_lt p.isLt)))).trans (v172_ref x3 h 1 p))).trans ?_
    exact less_word (intoOf (dstOf (p.val / 8)) (p.val % 8)) (by omega)
  have g1 : ∀ k, val_main_v219 (F := Ideal) x0 x3 (ix2 p k) = dirAt x0 (p.val / 8) k := fun k =>
    (Routing.gather_row _ rfl rfl rfl rfl rfl (val_main_v37 (F := Ideal) x0 x3) _ p k (⟨p.val / 8, by omega⟩ : Fin 30720) (by
      refine (val_main_v218_apply (F := Ideal) x3 _).trans ((congrArg (val_main_v217 (F := Ideal) x3) (show idx_main_v218 (ix2 p 0) = ix1 p from funext fun a => by match a with | ⟨0, _⟩ => rfl)).trans ?_)
      rw [val_main_v217_apply, val_main_v214_apply, val_main_v216_apply, w1, val_main_v213_apply]
      exact wrap_word _ (by omega) _) (by omega)).trans (v37_ref x0 x3 h _ k)
  have g2 : ∀ k, val_main_v230 (F := Ideal) x0 x3 (ix2 p k) = dirAt x0 (intoOf (dstOf (p.val / 8)) (p.val % 8)) k := fun k =>
    (Routing.gather_row _ rfl rfl rfl rfl rfl (val_main_v37 (F := Ideal) x0 x3) _ p k (⟨intoOf (dstOf (p.val / 8)) (p.val % 8), hl⟩ : Fin 30720) (by
      refine (val_main_v229_apply (F := Ideal) x3 _).trans ((congrArg (val_main_v228 (F := Ideal) x3) (show idx_main_v229 (ix2 p 0) = ix1 p from funext fun a => by match a with | ⟨0, _⟩ => rfl)).trans ?_)
      rw [val_main_v228_apply, val_main_v225_apply, val_main_v227_apply, w2, val_main_v224_apply]
      exact wrap_word _ (by omega) _) (by omega)).trans (v37_ref x0 x3 h _ k)
  have hk : ∀ k, val_main_v231 (F := Ideal) x0 x3 (idx_main_v232 (ix1 p) k) = dirAt x0 (p.val / 8) k * dirAt x0 (intoOf (dstOf (p.val / 8)) (p.val % 8)) k := fun k => by
    rw [show idx_main_v232 (ix1 p) k = ix2 p k from funext fun a => by match a with | ⟨0, _⟩ => rfl | ⟨1, _⟩ => rfl, val_main_v231_apply, g1, g2]
    rfl
  rw [val_main_v232_apply, Fin.sum_univ_three, hk, hk, hk, val_main_cst_38_apply]
  exact (congrArg (· + _) (show (FloatOps.ofBits .f32 0x00000000#32 : Ideal .f32) = (0 : EReal) from Ideal.ofBits_zero_f32)).trans (zero_add _)

theorem v256_ref (p : Fin 245760) : val_main_v256 (F := Ideal) x0 x3 (ix1 p) = cosAt2 x0 (p.val / 8) ((8 * (p.val / 64) + p.val % 8)) := by
  have hl : (8 * (p.val / 64) + p.val % 8) < 30720 := by omega
  have w1 : val_main_v236 (F := Ideal) x3 (ix1 p) = BitVec.ofNat 32 (p.val / 8) := by
    rw [val_main_v236_apply, val_main_v234_apply, val_main_v233_apply, val_main_v235_apply]
    refine (congrArg (fun w => IntOp.subi w _) ((congrArg (val_main_v207 (F := Ideal) x3) (show _ = ix2 (0 : Fin 2) p from funext fun a => Fin.ext (by match a with | ⟨0, _⟩ => rfl | ⟨1, _⟩ => exact (Nat.mod_eq_of_lt p.isLt)))).trans (v207_ref x3 h 0 p))).trans ?_
    exact less_word (p.val / 8) (by omega)
  have w2 : val_main_v247 (F := Ideal) x3 (ix1 p) = BitVec.ofNat 32 ((8 * (p.val / 64) + p.val % 8)) := by
    rw [val_main_v247_apply, val_main_v245_apply, val_main_v244_apply, val_main_v246_apply]
    refine (congrArg (fun w => IntOp.subi w _) ((congrArg (val_main_v207 (F := Ideal) x3) (show _ = ix2 (1 : Fin 2) p from funext fun a => Fin.ext (by match a with | ⟨0, _⟩ => rfl | ⟨1, _⟩ => exact (Nat.mod_eq_of_lt p.isLt)))).trans (v207_ref x3 h 1 p))).trans ?_
    exact less_word ((8 * (p.val / 64) + p.val % 8)) (by omega)
  have g1 : ∀ k, val_main_v243 (F := Ideal) x0 x3 (ix2 p k) = dirAt x0 (p.val / 8) k := fun k =>
    (Routing.gather_row _ rfl rfl rfl rfl rfl (val_main_v37 (F := Ideal) x0 x3) _ p k (⟨p.val / 8, by omega⟩ : Fin 30720) (by
      refine (val_main_v242_apply (F := Ideal) x3 _).trans ((congrArg (val_main_v241 (F := Ideal) x3) (show idx_main_v242 (ix2 p 0) = ix1 p from funext fun a => by match a with | ⟨0, _⟩ => rfl)).trans ?_)
      rw [val_main_v241_apply, val_main_v238_apply, val_main_v240_apply, w1, val_main_v237_apply]
      exact wrap_word _ (by omega) _) (by omega)).trans (v37_ref x0 x3 h _ k)
  have g2 : ∀ k, val_main_v254 (F := Ideal) x0 x3 (ix2 p k) = dirAt x0 ((8 * (p.val / 64) + p.val % 8)) k := fun k =>
    (Routing.gather_row _ rfl rfl rfl rfl rfl (val_main_v37 (F := Ideal) x0 x3) _ p k (⟨(8 * (p.val / 64) + p.val % 8), hl⟩ : Fin 30720) (by
      refine (val_main_v253_apply (F := Ideal) x3 _).trans ((congrArg (val_main_v252 (F := Ideal) x3) (show idx_main_v253 (ix2 p 0) = ix1 p from funext fun a => by match a with | ⟨0, _⟩ => rfl)).trans ?_)
      rw [val_main_v252_apply, val_main_v249_apply, val_main_v251_apply, w2, val_main_v248_apply]
      exact wrap_word _ (by omega) _) (by omega)).trans (v37_ref x0 x3 h _ k)
  have hk : ∀ k, val_main_v255 (F := Ideal) x0 x3 (idx_main_v256 (ix1 p) k) = dirAt x0 (p.val / 8) k * dirAt x0 ((8 * (p.val / 64) + p.val % 8)) k := fun k => by
    rw [show idx_main_v256 (ix1 p) k = ix2 p k from funext fun a => by match a with | ⟨0, _⟩ => rfl | ⟨1, _⟩ => rfl, val_main_v255_apply, g1, g2]
    rfl
  rw [val_main_v256_apply, Fin.sum_univ_three, hk, hk, hk, val_main_cst_45_apply]
  exact (congrArg (· + _) (show (FloatOps.ofBits .f32 0x00000000#32 : Ideal .f32) = (0 : EReal) from Ideal.ofBits_zero_f32)).trans (zero_add _)

theorem v208_ref (r : Fin 2) (i : Fin 668160) : val_main_v208 (F := Ideal) x3 (ix2 r i) = BitVec.ofNat 32 (edgeNo r i.val) := by
  have e129 : ∀ e : Fin 30720, val_main_v129 (F := Ideal) x3 (ix1 e) = BitVec.ofNat 32 (srcOf e.val) := v23_ref x3 h
  have e134 : ∀ e : Fin 30720, val_main_v134 (F := Ideal) x3 (ix1 e) = BitVec.ofNat 32 (dstOf e.val) := v14_ref x3 h
  refine stack_words (val_main_v108 (F := Ideal)) (val_main_v132 (F := Ideal) x3) (val_main_v137 (F := Ideal) x3) (val_main_v172 (F := Ideal) x3)
    (val_main_v207 (F := Ideal) x3) _ ?_ ?_ ?_ (v172_ref x3 h) (v207_ref x3 h) r i
  · intro r i
    refine (pair_words 115200 (val_main_v100 (F := Ideal)) (val_main_v105 (F := Ideal)) _ _ r i (by omega)).trans ?_
    rw [v100_ref, v105_ref]
    exact row_pick r
  · intro r i
    refine (pair_words 30720 (val_main_v129 (F := Ideal) x3) (val_main_v127 (F := Ideal)) _ _ r i (by omega)).trans ?_
    rw [e129, v127_ref]
    exact row_pick r
  · intro r i
    refine (pair_words 30720 (val_main_v127 (F := Ideal)) (val_main_v134 (F := Ideal) x3) _ _ r i (by omega)).trans ?_
    rw [e134, v127_ref]
    exact row_pick r
end

end Cert.Mol

end
-- ==== Proof.Meet.lean ====
/- The two programs meet: each result the kernel ends holding is the reference's, over the same arguments. -/
module

public import proofs.«01_k».proof.Proof.TokKer
public import proofs.«01_k».proof.Proof.TokRef
public import proofs.«01_k».proof.Proof.RefPairs

@[expose] public section

set_option maxRecDepth 16384

noncomputable section

namespace Cert.Mol

open Cert.KernelIdeal Cert.KernelIdeal.Gen Cert.ReferenceIdeal.Read Idealize.ShloMosaic Idealize.ShloMosaic.TcCoe

/-- A one-axis array is known by its entries. -/
theorem ext1 {α : Type} {N : ℕ} {f g : (⟨1, ![N]⟩ : Shape).Idx → α} (h : ∀ i : Fin N, f (ix1 i) = g (ix1 i)) : f = g := by
  funext y
  obtain ⟨i, rfl⟩ : ∃ i : Fin N, y = ix1 i := ⟨y 0, funext fun a => by fin_cases a; rfl⟩
  exact h i

/-- A two-axis array is known by its entries. -/
theorem ext2 {α : Type} {M N : ℕ} {f g : (⟨2, ![M, N]⟩ : Shape).Idx → α} (h : ∀ (i : Fin M) (j : Fin N), f (ix2 i j) = g (ix2 i j)) : f = g := by
  funext y
  obtain ⟨i, j, rfl⟩ : ∃ (i : Fin M) (j : Fin N), y = ix2 i j := ⟨y 0, y 1, funext fun a => by fin_cases a <;> rfl⟩
  exact h i j

variable (m : (ℓ : Loc nD τ sig) → Buf (Elt Ideal) ℓ) (ρ : Dev nD → PrngReg) (c : Dev nD)

/-- The edge-list argument. -/
abbrev edgeList : IVec S2x30720 32 := m ((c : Thread nD τ).loc main_arg3)

theorem meet_lengths (h : IsRing (edgeList m c)) : W4 m ρ c (Proc.devRef .tc main_v20) = val_main_v32 (F := Ideal) (pos m c) (edgeList m c) :=
  ext1 (N := 30720) fun e => (w4_v20 m ρ c e).trans (v32_ref (pos m c) (edgeList m c) h e).symm

theorem meet_directions (h : IsRing (edgeList m c)) : W4 m ρ c (Proc.devRef .tc main_v22) = val_main_v37 (F := Ideal) (pos m c) (edgeList m c) :=
  ext2 (M := 30720) (N := 3) fun e k => (w4_v22 m ρ c e k).trans (v37_ref (pos m c) (edgeList m c) h e k).symm

theorem meet_distances : W4 m ρ c (Proc.devRef .tc main_v31) = val_main_v124 (F := Ideal) (pos m c) :=
  ext1 (N := 115200) fun i => (w4_v31 m ρ c i).trans (v124_ref (pos m c) i).symm

theorem meet_at_target (h : IsRing (edgeList m c)) : W4 m ρ c (Proc.devRef .tc main_v28) = val_main_v232 (F := Ideal) (pos m c) (edgeList m c) :=
  ext1 (N := 245760) fun p => (w4_v28 m ρ c p).trans (v232_ref (pos m c) (edgeList m c) h p).symm

theorem meet_at_source (h : IsRing (edgeList m c)) : W4 m ρ c (Proc.devRef .tc main_v25) = val_main_v256 (F := Ideal) (pos m c) (edgeList m c) :=
  ext1 (N := 245760) fun p => (w4_v25 m ρ c p).trans (v256_ref (pos m c) (edgeList m c) h p).symm

theorem meet_table (h : IsRing (edgeList m c)) : W4 m ρ c (Proc.devRef .tc main_v55) = val_main_v208 (F := Ideal) (edgeList m c) :=
  ext2 (M := 2) (N := 668160) fun r i => (w4_v55 m ρ c r i).trans (v208_ref (edgeList m c) h r i).symm

theorem meet_tokens (h : IsRing (edgeList m c)) (hn : ∀ n : Fin 3840, ∃ k : Fin 100, numbers m c (ix1 n) = BitVec.ofNat 32 k.val) :
    W4 m ρ c (Proc.devRef .tc main_v64) = val_main_v84 (F := Ideal) (pos m c) (numbers m c) (edgeList m c) (atomTable m c) (typeTable m c) (weight1 m c) (bias1 m c) (weight2 m c) (bias2 m c) (weightS m c) :=
  w4_v64 m ρ c hn _
    (fun i n hi k hk q => v84_node (pos m c) (numbers m c) (edgeList m c) (atomTable m c) (typeTable m c) (weight1 m c) (bias1 m c) (weight2 m c) (bias2 m c) (weightS m c) i n hi k hk q)
    (fun i e hi q => v84_edge (pos m c) (numbers m c) (edgeList m c) (atomTable m c) (typeTable m c) (weight1 m c) (bias1 m c) (weight2 m c) (bias2 m c) (weightS m c) h i e hi q)

end Cert.Mol

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ring_graph
public import proofs.«01_k».proof.Proof.RefRun
public import proofs.«01_k».proof.Proof.Meet
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From memories agreeing on the arguments, with the edge list the ring graph's and the atoms' numbers in range, both
    programs run to the same seven results: the kernel's arrays are the reference's stage by stage (`Cert.Mol.meet_…`). -/
theorem values : @Cert.algebraic_KernelIdeal_ReferenceIdeal_pre_ring_graph Cert.KernelIdeal.Gen.facts Cert.ReferenceIdeal.Gen.facts Cert.Pre_ring_graph.Gen.facts := by
  intro m g m' g' hpre hagree
  have hp := fun c => Cert.Mol.pre_read _ _ _ _ _ _ _ _ _ _ _ (hpre c)
  have hr : ∀ c, Cert.Mol.IsRing (Cert.Mol.edgeList m c) := fun c => ⟨(hp c).2.1, (hp c).2.2⟩
  have hn := fun c => (hp c).1
  refine ⟨_, _, _, _, _, _, _, Cert.Mol.kerRun m g, ?_⟩
  refine (θ_run _ _ _).mono (fun r h c => ?_) (Cert.ReferenceIdeal.Value.run m' g')
  obtain ⟨h84, h208, h37, h124, h32, h232, h256, hargs⟩ := h c
  obtain ⟨e0, e1, e2, e3, e4, e5, e6, e7, e8, e9, e10⟩ := hagree c
  refine ⟨h84.trans ?_, h208.trans ?_, h37.trans ?_, h124.trans ?_, h32.trans ?_, h232.trans ?_, h256.trans ?_, hargs⟩
  · refine (Cert.ReferenceIdeal.Read.val_main_v84_eq _).trans (Eq.trans ?_ (Cert.Mol.meet_tokens m g c (hr c) (hn c)).symm)
    exact congr (congr (congr (congr (congr (congr (congr (congr (congr (congrArg _ e0) e2) e3) e4) e5) e6) e7) e8) e9) e10
  · exact (Cert.ReferenceIdeal.Read.val_main_v208_eq _).trans ((congrArg _ e3).trans (Cert.Mol.meet_table m g c (hr c)).symm)
  · exact (Cert.ReferenceIdeal.Read.val_main_v37_eq _).trans ((congrArg₂ _ e0 e3).trans (Cert.Mol.meet_directions m g c (hr c)).symm)
  · exact (Cert.ReferenceIdeal.Read.val_main_v124_eq _).trans ((congrArg _ e0).trans (Cert.Mol.meet_distances m g c).symm)
  · exact (Cert.ReferenceIdeal.Read.val_main_v32_eq _).trans ((congrArg₂ _ e0 e3).trans (Cert.Mol.meet_lengths m g c (hr c)).symm)
  · exact (Cert.ReferenceIdeal.Read.val_main_v232_eq _).trans ((congrArg₂ _ e0 e3).trans (Cert.Mol.meet_at_target m g c (hr c)).symm)
  · exact (Cert.ReferenceIdeal.Read.val_main_v256_eq _).trans ((congrArg₂ _ e0 e3).trans (Cert.Mol.meet_at_source m g c (hr c)).symm)

theorem claim : Cert.Claim := ⟨Cert.Kernel.Gen.facts, Cert.KernelIdeal.Gen.facts, Cert.ReferenceIdeal.Gen.facts, Cert.Pre_ring_graph.Gen.facts,
  fun m g _ => Cert.Kernel.Gen.frame m g,
  fun m g _ => Cert.KernelIdeal.Gen.frame m g,
  fun m g _ => Cert.KernelIdeal.Gen.frame m g,
  fun m g _ => (θ_run _ _ _).mono (fun r h => ⟨fun c => (h c).2.2.2.2.2.2.2, sem_eq_zero_of_no_sems rfl r.2⟩) (Cert.ReferenceIdeal.Value.run m g),
  fun m g _ => (θ_run _ _ _).mono (fun r h => ⟨fun c => (h c).2.2.2.2.2.2.2, sem_eq_zero_of_no_sems rfl r.2⟩) (Cert.ReferenceIdeal.Value.run m g),
  ⟨IdealRules.named_const.statement Cert.KernelIdeal.κ "step" .f32 0x3E7AC688#32 _ rfl, IdealRules.named_const.statement Cert.KernelIdeal.κ "coeff" .f32 0xC105638E#32 _ rfl⟩,
  values⟩

end Cert.Proof

end
